-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![8192, 4096]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S4096x4096 : Shape := ⟨2, ![4096, 4096]⟩
abbrev S8x128x4096 : Shape := ⟨3, ![8, 128, 4096]⟩
abbrev S2x128x4096 : Shape := ⟨3, ![2, 128, 4096]⟩
abbrev S2 : Shape := ⟨1, ![2]⟩
abbrev S8 : Shape := ⟨1, ![8]⟩
abbrev S4 : Shape := ⟨1, ![4]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x4096, .bf16⟩
  | .local _ .vmem, ⟨0, _⟩ => ⟨S4096, .f32⟩
  | .local _ .vmem, ⟨1, _⟩ => ⟨S8x128x4096, .bf16⟩
  | .local _ .vmem, ⟨2, _⟩ => ⟨S8x128x4096, .bf16⟩
  | .local _ .vmem, ⟨3, _⟩ => ⟨S2x128x4096, .f32⟩
  | .local _ .vmem, ⟨4, _⟩ => ⟨S2x128x4096, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) (c0_i32_27 : BitVec 32) : Fin 3 → Nat :=
  let c0_i32_28 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v42 : BitVec 32 := Scalar.subi c1_i32_26 v2
  let c4096_i32 : BitVec 32 := 4096#32
  let v43 : BitVec 32 := Scalar.muli v42 c4096_i32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v31 : BitVec 32 := Scalar.muli v5 c2048_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v32 : BitVec 32 := Scalar.muli v8 c1024_i32
  let v33 : BitVec 32 := Scalar.addi v31 v32
  let v44 : BitVec 32 := Scalar.addi v43 v33
  let v45 : BitVec 32 := Scalar.addi v44 c0_i32_27
  let c0_i32_33 : BitVec 32 := 0#32
  ![0, v45.toNat, 0]
def k0_dev4 (d0 : Dev nD) : Nat :=
  let c0_i32_50 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_49 : BitVec 32 := 4#32
  let v64 : BitVec 32 := Scalar.muli v9 c4_i32_49
  let v65 : BitVec 32 := Scalar.addi c0_i32_50 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v66 : BitVec 32 := Scalar.muli v5 c2_i32_51
  let v67 : BitVec 32 := Scalar.addi v65 v66
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v68 : BitVec 32 := Scalar.muli v8 c1_i32_52
  let v69 : BitVec 32 := Scalar.addi v67 v68
  v69.toNat
def k0_dev5 (d0 : Dev nD) : Nat :=
  let c0_i32_81 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_80 : BitVec 32 := 4#32
  let v100 : BitVec 32 := Scalar.muli v9 c4_i32_80
  let v101 : BitVec 32 := Scalar.addi c0_i32_81 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v102 : BitVec 32 := Scalar.muli v5 c2_i32_82
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_83 : BitVec 32 := 1#32
  let v104 : BitVec 32 := Scalar.muli v8 c1_i32_83
  let v105 : BitVec 32 := Scalar.addi v103 v104
  v105.toNat
def k0_dev6 (d0 : Dev nD) : Nat :=
  let c0_i32_112 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_111 : BitVec 32 := 4#32
  let v136 : BitVec 32 := Scalar.muli v9 c4_i32_111
  let v137 : BitVec 32 := Scalar.addi c0_i32_112 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_113 : BitVec 32 := 2#32
  let v138 : BitVec 32 := Scalar.muli v5 c2_i32_113
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_114 : BitVec 32 := 1#32
  let v140 : BitVec 32 := Scalar.muli v8 c1_i32_114
  let v141 : BitVec 32 := Scalar.addi v139 v140
  v141.toNat
def k0_dev7 (d0 : Dev nD) : Nat :=
  let c0_i32_143 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_142 : BitVec 32 := 4#32
  let v172 : BitVec 32 := Scalar.muli v9 c4_i32_142
  let v173 : BitVec 32 := Scalar.addi c0_i32_143 v172
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_144 : BitVec 32 := 2#32
  let v174 : BitVec 32 := Scalar.muli v5 c2_i32_144
  let v175 : BitVec 32 := Scalar.addi v173 v174
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v176 : BitVec 32 := Scalar.muli v8 c1_i32_145
  let v177 : BitVec 32 := Scalar.addi v175 v176
  v177.toNat
def k0_dev8 (d0 : Dev nD) : Nat :=
  let c0_i32_174 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_173 : BitVec 32 := 4#32
  let v208 : BitVec 32 := Scalar.muli v9 c4_i32_173
  let v209 : BitVec 32 := Scalar.addi c0_i32_174 v208
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v210 : BitVec 32 := Scalar.muli v5 c2_i32_175
  let v211 : BitVec 32 := Scalar.addi v209 v210
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_176 : BitVec 32 := 1#32
  let v212 : BitVec 32 := Scalar.muli v8 c1_i32_176
  let v213 : BitVec 32 := Scalar.addi v211 v212
  v213.toNat
def k0_dev9 (d0 : Dev nD) : Nat :=
  let c0_i32_204 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_203 : BitVec 32 := 4#32
  let v244 : BitVec 32 := Scalar.muli v9 c4_i32_203
  let v245 : BitVec 32 := Scalar.addi c0_i32_204 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v246 : BitVec 32 := Scalar.muli v5 c2_i32_205
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v248 : BitVec 32 := Scalar.muli v8 c1_i32_206
  let v249 : BitVec 32 := Scalar.addi v247 v248
  v249.toNat
def k0_dev10 (d0 : Dev nD) : Nat :=
  let c0_i32_234 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_233 : BitVec 32 := 4#32
  let v280 : BitVec 32 := Scalar.muli v9 c4_i32_233
  let v281 : BitVec 32 := Scalar.addi c0_i32_234 v280
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_235 : BitVec 32 := 2#32
  let v282 : BitVec 32 := Scalar.muli v5 c2_i32_235
  let v283 : BitVec 32 := Scalar.addi v281 v282
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_236 : BitVec 32 := 1#32
  let v284 : BitVec 32 := Scalar.muli v8 c1_i32_236
  let v285 : BitVec 32 := Scalar.addi v283 v284
  v285.toNat
def k0_dev11 (d0 : Dev nD) : Nat :=
  let c0_i32_264 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_263 : BitVec 32 := 4#32
  let v316 : BitVec 32 := Scalar.muli v9 c4_i32_263
  let v317 : BitVec 32 := Scalar.addi c0_i32_264 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v318 : BitVec 32 := Scalar.muli v5 c2_i32_265
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_266 : BitVec 32 := 1#32
  let v320 : BitVec 32 := Scalar.muli v8 c1_i32_266
  let v321 : BitVec 32 := Scalar.addi v319 v320
  v321.toNat
def k0_off2 (d0 : Dev nD) (c0_i32_272 : BitVec 32) : Fin 3 → Nat :=
  let c0_i32_273 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4096_i32_271 : BitVec 32 := 4096#32
  let v330 : BitVec 32 := Scalar.muli v2 c4096_i32_271
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v31 : BitVec 32 := Scalar.muli v5 c2048_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v32 : BitVec 32 := Scalar.muli v8 c1024_i32
  let v33 : BitVec 32 := Scalar.addi v31 v32
  let v331 : BitVec 32 := Scalar.addi v330 v33
  let v332 : BitVec 32 := Scalar.addi v331 c0_i32_272
  let c0_i32_278 : BitVec 32 := 0#32
  ![0, v332.toNat, 0]
def k0_off3 (d0 : Dev nD) (c0_i32_309 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32 : BitVec 32 := 2048#32
  let v31 : BitVec 32 := Scalar.muli v5 c2048_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v32 : BitVec 32 := Scalar.muli v8 c1024_i32
  let v33 : BitVec 32 := Scalar.addi v31 v32
  let v382 : BitVec 32 := Scalar.addi v33 c0_i32_309
  let c0_i32_312 : BitVec 32 := 0#32
  ![v382.toNat, 0]
def k0_dev12 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_319 : BitVec 32 := 4#32
  let v389 : BitVec 32 := Scalar.muli v2 c4_i32_319
  let v390 : BitVec 32 := Scalar.addi c0_i32_320 v389
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_321 : BitVec 32 := 2#32
  let v391 : BitVec 32 := Scalar.muli v10 c2_i32_321
  let v392 : BitVec 32 := Scalar.addi v390 v391
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_322 : BitVec 32 := 1#32
  let v393 : BitVec 32 := Scalar.muli v8 c1_i32_322
  let v394 : BitVec 32 := Scalar.addi v392 v393
  v394.toNat
def k0_dev13 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v403 : BitVec 32 := Scalar.muli v2 c4_i32_330
  let v404 : BitVec 32 := Scalar.addi c0_i32_331 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_332 : BitVec 32 := 2#32
  let v405 : BitVec 32 := Scalar.muli v5 c2_i32_332
  let v406 : BitVec 32 := Scalar.addi v404 v405
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_333 : BitVec 32 := 1#32
  let v407 : BitVec 32 := Scalar.muli v11 c1_i32_333
  let v408 : BitVec 32 := Scalar.addi v406 v407
  v408.toNat
def k0_dev14 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_386 : BitVec 32 := 4#32
  let v475 : BitVec 32 := Scalar.muli v2 c4_i32_386
  let v476 : BitVec 32 := Scalar.addi c0_i32_387 v475
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_388 : BitVec 32 := 2#32
  let v477 : BitVec 32 := Scalar.muli v10 c2_i32_388
  let v478 : BitVec 32 := Scalar.addi v476 v477
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v479 : BitVec 32 := Scalar.muli v8 c1_i32_389
  let v480 : BitVec 32 := Scalar.addi v478 v479
  v480.toNat
def k0_dev15 (d0 : Dev nD) : Nat :=
  let c0_i32_398 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_397 : BitVec 32 := 4#32
  let v489 : BitVec 32 := Scalar.muli v2 c4_i32_397
  let v490 : BitVec 32 := Scalar.addi c0_i32_398 v489
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_399 : BitVec 32 := 2#32
  let v491 : BitVec 32 := Scalar.muli v5 c2_i32_399
  let v492 : BitVec 32 := Scalar.addi v490 v491
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_400 : BitVec 32 := 1#32
  let v493 : BitVec 32 := Scalar.muli v11 c1_i32_400
  let v494 : BitVec 32 := Scalar.addi v492 v493
  v494.toNat
def k0_off4 (d0 : Dev nD) (c0_i32_415 : BitVec 32) : Fin 2 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2048_i32_23 : BitVec 32 := 2048#32
  let v38 : BitVec 32 := Scalar.muli v5 c2048_i32_23
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_24 v8
  let c1024_i32_25 : BitVec 32 := 1024#32
  let v40 : BitVec 32 := Scalar.muli v39 c1024_i32_25
  let v41 : BitVec 32 := Scalar.addi v38 v40
  let v514 : BitVec 32 := Scalar.addi v41 c0_i32_415
  let c0_i32_422 : BitVec 32 := 0#32
  ![v514.toNat, 0]
def k0_dev16 (d0 : Dev nD) : Nat :=
  let c0_i32_419 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_418 : BitVec 32 := 4#32
  let v515 : BitVec 32 := Scalar.muli v2 c4_i32_418
  let v516 : BitVec 32 := Scalar.addi c0_i32_419 v515
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_420 : BitVec 32 := 2#32
  let v517 : BitVec 32 := Scalar.muli v10 c2_i32_420
  let v518 : BitVec 32 := Scalar.addi v516 v517
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_421 : BitVec 32 := 1#32
  let v519 : BitVec 32 := Scalar.muli v8 c1_i32_421
  let v520 : BitVec 32 := Scalar.addi v518 v519
  v520.toNat
def k0_dev17 (d0 : Dev nD) : Nat :=
  let c0_i32_496 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_495 : BitVec 32 := 4#32
  let v604 : BitVec 32 := Scalar.muli v2 c4_i32_495
  let v605 : BitVec 32 := Scalar.addi c0_i32_496 v604
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_497 : BitVec 32 := 2#32
  let v606 : BitVec 32 := Scalar.muli v10 c2_i32_497
  let v607 : BitVec 32 := Scalar.addi v605 v606
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_498 : BitVec 32 := 1#32
  let v608 : BitVec 32 := Scalar.muli v8 c1_i32_498
  let v609 : BitVec 32 := Scalar.addi v607 v608
  v609.toNat
def k0_dev18 (d0 : Dev nD) : Nat :=
  let c0_i32_507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_506 : BitVec 32 := 4#32
  let v618 : BitVec 32 := Scalar.muli v2 c4_i32_506
  let v619 : BitVec 32 := Scalar.addi c0_i32_507 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_508 : BitVec 32 := 2#32
  let v620 : BitVec 32 := Scalar.muli v5 c2_i32_508
  let v621 : BitVec 32 := Scalar.addi v619 v620
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_509 : BitVec 32 := 1#32
  let v622 : BitVec 32 := Scalar.muli v11 c1_i32_509
  let v623 : BitVec 32 := Scalar.addi v621 v622
  v623.toNat
def k0_off5 (d0 : Dev nD) (c128_i32_524 : BitVec 32) : Fin 2 → Nat :=
  let c1_i32_20 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v34 : BitVec 32 := Scalar.subi c1_i32_20 v5
  let c2048_i32_21 : BitVec 32 := 2048#32
  let v35 : BitVec 32 := Scalar.muli v34 c2048_i32_21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_22 : BitVec 32 := 1024#32
  let v36 : BitVec 32 := Scalar.muli v8 c1024_i32_22
  let v37 : BitVec 32 := Scalar.addi v35 v36
  let v643 : BitVec 32 := Scalar.addi v37 c128_i32_524
  let c0_i32_531 : BitVec 32 := 0#32
  ![v643.toNat, 0]
def k0_dev19 (d0 : Dev nD) : Nat :=
  let c0_i32_528 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_527 : BitVec 32 := 4#32
  let v644 : BitVec 32 := Scalar.muli v2 c4_i32_527
  let v645 : BitVec 32 := Scalar.addi c0_i32_528 v644
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_529 : BitVec 32 := 2#32
  let v646 : BitVec 32 := Scalar.muli v5 c2_i32_529
  let v647 : BitVec 32 := Scalar.addi v645 v646
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_530 : BitVec 32 := 1#32
  let v648 : BitVec 32 := Scalar.muli v11 c1_i32_530
  let v649 : BitVec 32 := Scalar.addi v647 v648
  v649.toNat
def k0_dev20 (d0 : Dev nD) : Nat :=
  let c0_i32_605 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_604 : BitVec 32 := 4#32
  let v733 : BitVec 32 := Scalar.muli v2 c4_i32_604
  let v734 : BitVec 32 := Scalar.addi c0_i32_605 v733
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_606 : BitVec 32 := 2#32
  let v735 : BitVec 32 := Scalar.muli v10 c2_i32_606
  let v736 : BitVec 32 := Scalar.addi v734 v735
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_607 : BitVec 32 := 1#32
  let v737 : BitVec 32 := Scalar.muli v8 c1_i32_607
  let v738 : BitVec 32 := Scalar.addi v736 v737
  v738.toNat
def k0_dev21 (d0 : Dev nD) : Nat :=
  let c0_i32_616 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_615 : BitVec 32 := 4#32
  let v747 : BitVec 32 := Scalar.muli v2 c4_i32_615
  let v748 : BitVec 32 := Scalar.addi c0_i32_616 v747
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_617 : BitVec 32 := 2#32
  let v749 : BitVec 32 := Scalar.muli v5 c2_i32_617
  let v750 : BitVec 32 := Scalar.addi v748 v749
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_618 : BitVec 32 := 1#32
  let v751 : BitVec 32 := Scalar.muli v11 c1_i32_618
  let v752 : BitVec 32 := Scalar.addi v750 v751
  v752.toNat
def k0_dev22 (d0 : Dev nD) : Nat :=
  let c0_i32_637 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_636 : BitVec 32 := 4#32
  let v773 : BitVec 32 := Scalar.muli v2 c4_i32_636
  let v774 : BitVec 32 := Scalar.addi c0_i32_637 v773
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_638 : BitVec 32 := 2#32
  let v775 : BitVec 32 := Scalar.muli v10 c2_i32_638
  let v776 : BitVec 32 := Scalar.addi v774 v775
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_639 : BitVec 32 := 1#32
  let v777 : BitVec 32 := Scalar.muli v8 c1_i32_639
  let v778 : BitVec 32 := Scalar.addi v776 v777
  v778.toNat
def k0_dev23 (d0 : Dev nD) : Nat :=
  let c0_i32_714 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_713 : BitVec 32 := 4#32
  let v862 : BitVec 32 := Scalar.muli v2 c4_i32_713
  let v863 : BitVec 32 := Scalar.addi c0_i32_714 v862
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_715 : BitVec 32 := 2#32
  let v864 : BitVec 32 := Scalar.muli v10 c2_i32_715
  let v865 : BitVec 32 := Scalar.addi v863 v864
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_716 : BitVec 32 := 1#32
  let v866 : BitVec 32 := Scalar.muli v8 c1_i32_716
  let v867 : BitVec 32 := Scalar.addi v865 v866
  v867.toNat
def k0_dev24 (d0 : Dev nD) : Nat :=
  let c0_i32_725 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_724 : BitVec 32 := 4#32
  let v876 : BitVec 32 := Scalar.muli v2 c4_i32_724
  let v877 : BitVec 32 := Scalar.addi c0_i32_725 v876
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_726 : BitVec 32 := 2#32
  let v878 : BitVec 32 := Scalar.muli v5 c2_i32_726
  let v879 : BitVec 32 := Scalar.addi v877 v878
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_727 : BitVec 32 := 1#32
  let v880 : BitVec 32 := Scalar.muli v11 c1_i32_727
  let v881 : BitVec 32 := Scalar.addi v879 v880
  v881.toNat
def k0_dev25 (d0 : Dev nD) : Nat :=
  let c0_i32_746 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_745 : BitVec 32 := 4#32
  let v902 : BitVec 32 := Scalar.muli v2 c4_i32_745
  let v903 : BitVec 32 := Scalar.addi c0_i32_746 v902
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_747 : BitVec 32 := 2#32
  let v904 : BitVec 32 := Scalar.muli v5 c2_i32_747
  let v905 : BitVec 32 := Scalar.addi v903 v904
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_748 : BitVec 32 := 1#32
  let v906 : BitVec 32 := Scalar.muli v11 c1_i32_748
  let v907 : BitVec 32 := Scalar.addi v905 v906
  v907.toNat
def k0_dev26 (d0 : Dev nD) : Nat :=
  let c0_i32_823 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_822 : BitVec 32 := 4#32
  let v991 : BitVec 32 := Scalar.muli v2 c4_i32_822
  let v992 : BitVec 32 := Scalar.addi c0_i32_823 v991
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_824 : BitVec 32 := 2#32
  let v993 : BitVec 32 := Scalar.muli v10 c2_i32_824
  let v994 : BitVec 32 := Scalar.addi v992 v993
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_825 : BitVec 32 := 1#32
  let v995 : BitVec 32 := Scalar.muli v8 c1_i32_825
  let v996 : BitVec 32 := Scalar.addi v994 v995
  v996.toNat
def k0_dev27 (d0 : Dev nD) : Nat :=
  let c0_i32_834 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_833 : BitVec 32 := 4#32
  let v1005 : BitVec 32 := Scalar.muli v2 c4_i32_833
  let v1006 : BitVec 32 := Scalar.addi c0_i32_834 v1005
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_835 : BitVec 32 := 2#32
  let v1007 : BitVec 32 := Scalar.muli v5 c2_i32_835
  let v1008 : BitVec 32 := Scalar.addi v1006 v1007
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_836 : BitVec 32 := 1#32
  let v1009 : BitVec 32 := Scalar.muli v11 c1_i32_836
  let v1010 : BitVec 32 := Scalar.addi v1008 v1009
  v1010.toNat
def k0_dev28 (d0 : Dev nD) : Nat :=
  let c0_i32_855 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_854 : BitVec 32 := 4#32
  let v1031 : BitVec 32 := Scalar.muli v2 c4_i32_854
  let v1032 : BitVec 32 := Scalar.addi c0_i32_855 v1031
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_856 : BitVec 32 := 2#32
  let v1033 : BitVec 32 := Scalar.muli v10 c2_i32_856
  let v1034 : BitVec 32 := Scalar.addi v1032 v1033
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_857 : BitVec 32 := 1#32
  let v1035 : BitVec 32 := Scalar.muli v8 c1_i32_857
  let v1036 : BitVec 32 := Scalar.addi v1034 v1035
  v1036.toNat
def k0_dev29 (d0 : Dev nD) : Nat :=
  let c0_i32_932 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_931 : BitVec 32 := 4#32
  let v1120 : BitVec 32 := Scalar.muli v2 c4_i32_931
  let v1121 : BitVec 32 := Scalar.addi c0_i32_932 v1120
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_933 : BitVec 32 := 2#32
  let v1122 : BitVec 32 := Scalar.muli v10 c2_i32_933
  let v1123 : BitVec 32 := Scalar.addi v1121 v1122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_934 : BitVec 32 := 1#32
  let v1124 : BitVec 32 := Scalar.muli v8 c1_i32_934
  let v1125 : BitVec 32 := Scalar.addi v1123 v1124
  v1125.toNat
def k0_dev30 (d0 : Dev nD) : Nat :=
  let c0_i32_943 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_942 : BitVec 32 := 4#32
  let v1134 : BitVec 32 := Scalar.muli v2 c4_i32_942
  let v1135 : BitVec 32 := Scalar.addi c0_i32_943 v1134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_944 : BitVec 32 := 2#32
  let v1136 : BitVec 32 := Scalar.muli v5 c2_i32_944
  let v1137 : BitVec 32 := Scalar.addi v1135 v1136
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_945 : BitVec 32 := 1#32
  let v1138 : BitVec 32 := Scalar.muli v11 c1_i32_945
  let v1139 : BitVec 32 := Scalar.addi v1137 v1138
  v1139.toNat
def k0_dev31 (d0 : Dev nD) : Nat :=
  let c0_i32_964 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_963 : BitVec 32 := 4#32
  let v1160 : BitVec 32 := Scalar.muli v2 c4_i32_963
  let v1161 : BitVec 32 := Scalar.addi c0_i32_964 v1160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_965 : BitVec 32 := 2#32
  let v1162 : BitVec 32 := Scalar.muli v5 c2_i32_965
  let v1163 : BitVec 32 := Scalar.addi v1161 v1162
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_966 : BitVec 32 := 1#32
  let v1164 : BitVec 32 := Scalar.muli v11 c1_i32_966
  let v1165 : BitVec 32 := Scalar.addi v1163 v1164
  v1165.toNat
def k0_dev32 (d0 : Dev nD) : Nat :=
  let c0_i32_1041 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1040 : BitVec 32 := 4#32
  let v1249 : BitVec 32 := Scalar.muli v2 c4_i32_1040
  let v1250 : BitVec 32 := Scalar.addi c0_i32_1041 v1249
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1042 : BitVec 32 := 2#32
  let v1251 : BitVec 32 := Scalar.muli v10 c2_i32_1042
  let v1252 : BitVec 32 := Scalar.addi v1250 v1251
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1043 : BitVec 32 := 1#32
  let v1253 : BitVec 32 := Scalar.muli v8 c1_i32_1043
  let v1254 : BitVec 32 := Scalar.addi v1252 v1253
  v1254.toNat
def k0_dev33 (d0 : Dev nD) : Nat :=
  let c0_i32_1052 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1051 : BitVec 32 := 4#32
  let v1263 : BitVec 32 := Scalar.muli v2 c4_i32_1051
  let v1264 : BitVec 32 := Scalar.addi c0_i32_1052 v1263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1053 : BitVec 32 := 2#32
  let v1265 : BitVec 32 := Scalar.muli v5 c2_i32_1053
  let v1266 : BitVec 32 := Scalar.addi v1264 v1265
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1054 : BitVec 32 := 1#32
  let v1267 : BitVec 32 := Scalar.muli v11 c1_i32_1054
  let v1268 : BitVec 32 := Scalar.addi v1266 v1267
  v1268.toNat
def k0_dev34 (d0 : Dev nD) : Nat :=
  let c0_i32_1073 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1072 : BitVec 32 := 4#32
  let v1289 : BitVec 32 := Scalar.muli v2 c4_i32_1072
  let v1290 : BitVec 32 := Scalar.addi c0_i32_1073 v1289
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_1074 : BitVec 32 := 2#32
  let v1291 : BitVec 32 := Scalar.muli v10 c2_i32_1074
  let v1292 : BitVec 32 := Scalar.addi v1290 v1291
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1075 : BitVec 32 := 1#32
  let v1293 : BitVec 32 := Scalar.muli v8 c1_i32_1075
  let v1294 : BitVec 32 := Scalar.addi v1292 v1293
  v1294.toNat
def k0_dev35 (d0 : Dev nD) : Nat :=
  let c0_i32_1093 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1092 : BitVec 32 := 4#32
  let v1314 : BitVec 32 := Scalar.muli v2 c4_i32_1092
  let v1315 : BitVec 32 := Scalar.addi c0_i32_1093 v1314
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1094 : BitVec 32 := 2#32
  let v1316 : BitVec 32 := Scalar.muli v5 c2_i32_1094
  let v1317 : BitVec 32 := Scalar.addi v1315 v1316
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_1095 : BitVec 32 := 1#32
  let v1318 : BitVec 32 := Scalar.muli v11 c1_i32_1095
  let v1319 : BitVec 32 := Scalar.addi v1317 v1318
  v1319.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdeal.Steps.lean ====
/-
# The kernel's body as a sequence of steps, each written once for every chunk

The printed body runs the same few operations chunk after chunk: a copy of 128 rows into a slot, its wait, the
send of the truncated rows along the first mesh axis, the normalisation of a chunk, its three copies out, the
forwards of received chunks, and the waits. Here each of them is a definition over the chunk, and `body_eq` says
that the printed body is their sequence.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Talk

open Cert.KernelIdeal Cert.KernelIdeal.Gen
open Idealize.ShloMosaic Idealize.ShloMosaic.TcCoe
open Idealize.SL.Sem

variable {F : FTy → Type} [FloatOps F]

/-- Programs of the kernel's body. -/
abbrev TP (α : Type) : Type 1 := Prog (TpuEff nD τ sig (Elt F) Λ₀ .tc) α

/-! ## The buffers, and the slices that the steps name -/

/-- The device's block of the summand. -/
abbrev aM : Memref sig .tc .hbm S1x8192x4096 .f32 := Memref.whole main_arg0
/-- The weights, staged in vector memory. -/
abbrev gM : Memref sig .tc .vmem S4096 .f32 := Memref.whole cc0_stg0_0
/-- The result. -/
abbrev oM : Memref sig .tc .hbm S4096x4096 .bf16 := Memref.whole main_v1
/-- The truncated rows to send. -/
abbrev xsM : Memref sig .tc .vmem S8x128x4096 .bf16 := Memref.whole cc0_scratch0
/-- The truncated rows received. -/
abbrev xrM : Memref sig .tc .vmem S8x128x4096 .bf16 := Memref.whole cc0_scratch1
/-- The two slots of rows read. -/
abbrev afM : Memref sig .tc .vmem S2x128x4096 .f32 := Memref.whole cc0_scratch2
/-- The two slots of normalised rows. -/
abbrev obM : Memref sig .tc .vmem S2x128x4096 .bf16 := Memref.whole cc0_scratch3

theorem inb8 (c : Fin 8) : ∀ a, (![c.val, 0, 0] : Fin 3 → Nat) a + S1x128x4096.size a ≤ S8x128x4096.size a := by
  revert c; decide +kernel
theorem inb2 (s : Fin 2) : ∀ a, (![s.val, 0, 0] : Fin 3 → Nat) a + S1x128x4096.size a ≤ S2x128x4096.size a := by
  revert s; decide +kernel

/-- Slot `c` of an array of eight slots, -/
abbrev rect8 (c : Fin 8) : Rect S8x128x4096 := Rect.unit (s := S8x128x4096) ![c.val, 0, 0] S1x128x4096.size (inb8 c)
/-- and of two. -/
abbrev rect2 (s : Fin 2) : Rect S2x128x4096 := Rect.unit (s := S2x128x4096) ![s.val, 0, 0] S1x128x4096.size (inb2 s)

/-- Slots of the scratch buffers. -/
abbrev xsAt (c : Fin 8) : Memref sig .tc .vmem S1x128x4096 .bf16 := xsM.slice (rect8 c) (fun _ => rfl)
abbrev xrAt (c : Fin 8) : Memref sig .tc .vmem S1x128x4096 .bf16 := xrM.slice (rect8 c) (fun _ => rfl)
abbrev afAt (s : Fin 2) : Memref sig .tc .vmem S1x128x4096 .f32 := afM.slice (rect2 s) (fun _ => rfl)
abbrev obAt (s : Fin 2) : Memref sig .tc .vmem S1x128x4096 .bf16 := obM.slice (rect2 s) (fun _ => rfl)
/-- The same 128 rows without the leading axis of size one. -/
abbrev sqz {sp : Space} {e : EltTy} (m : Memref sig .tc sp S1x128x4096 e) : Memref sig .tc sp S128x4096 e :=
  m.squeeze S128x4096 squeezes_S1x128x4096_S128x4096

theorem words8 (c : Fin 8) : (rect8 c).WholeWords (EltTy.packing .bf16) := by revert c; decide +kernel
theorem words2 (s : Fin 2) : (rect2 s).WholeWords (EltTy.packing .bf16) := by revert s; decide +kernel
theorem packed8 (c : Fin 8) : (rect8 c).PackedRows (EltTy.packing .bf16) := by revert c; decide +kernel
theorem packed2 (s : Fin 2) : (rect2 s).PackedRows (EltTy.packing .bf16) := by revert s; decide +kernel

/-- The semaphore of slot `s` of an array of two, -/
abbrev sem2 (a : DmaSems sig S2) (s : Fin 2) : DmaSem sig :=
  ((a.slice (Rect.unit (s := S2) ![s.val] S1.size (by revert s; decide +kernel))).squeeze S_ squeezes_S1_S_).sem
/-- of four, -/
abbrev sem4 (a : DmaSems sig S4) (i : Fin 4) : DmaSem sig :=
  ((a.slice (Rect.unit (s := S4) ![i.val] S1.size (by revert i; decide +kernel))).squeeze S_ squeezes_S1_S_).sem
/-- and of eight. -/
abbrev sem8 (a : DmaSems sig S8) (c : Fin 8) : DmaSem sig :=
  ((a.slice (Rect.unit (s := S8) ![c.val] S1.size (by revert c; decide +kernel))).squeeze S_ squeezes_S1_S_).sem

/-- The rows of the summand that the device sends, -/
abbrev aSent (d : Dev nD) (c : Fin 8) : Memref sig .tc .hbm S1x128x4096 .f32 :=
  aM.slice (Rect.unit (s := S1x8192x4096) (k0_off1 d (BitVec.ofNat 32 (128 * c.val))) S1x128x4096.size (k0_off1_inb d c)) (fun _ => rfl)
/-- and that it keeps. -/
abbrev aKept (d : Dev nD) (c : Fin 8) : Memref sig .tc .hbm S1x128x4096 .f32 :=
  aM.slice (Rect.unit (s := S1x8192x4096) (k0_off2 d (BitVec.ofNat 32 (128 * c.val))) S1x128x4096.size (k0_off2_inb d c)) (fun _ => rfl)
/-- The rows of the result that the device computes, -/
abbrev oOwn (d : Dev nD) (c : Fin 8) : Memref sig .tc .hbm S128x4096 .bf16 :=
  oM.slice (Rect.unit (s := S4096x4096) (k0_off3 d (BitVec.ofNat 32 (128 * c.val))) S128x4096.size (k0_off3_inb d c)) (fun _ => rfl)
/-- the even chunks that it forwards, -/
abbrev oFwY (d : Dev nD) (i : Fin 4) : Memref sig .tc .hbm S128x4096 .bf16 :=
  oM.slice (Rect.unit (s := S4096x4096) (k0_off4 d (BitVec.ofNat 32 (256 * i.val))) S128x4096.size (k0_off4_inb d i)) (fun _ => rfl)
/-- and the odd ones. -/
abbrev oFwZ (d : Dev nD) (i : Fin 4) : Memref sig .tc .hbm S128x4096 .bf16 :=
  oM.slice (Rect.unit (s := S4096x4096) (k0_off5 d (BitVec.ofNat 32 (128 + 256 * i.val))) S128x4096.size (k0_off5_inb d i)) (fun _ => rfl)

theorem oOwn_word (d : Dev nD) (c : Fin 8) : (oOwn d c).view.WordExact :=
  (Memref.isWhole_whole main_v1).wordExact_slice rfl _ (k0_off3_wordsbf16 d c)
theorem oFwY_word (d : Dev nD) (i : Fin 4) : (oFwY d i).view.WordExact :=
  (Memref.isWhole_whole main_v1).wordExact_slice rfl _ (k0_off4_wordsbf16 d i)
theorem oFwZ_word (d : Dev nD) (i : Fin 4) : (oFwZ d i).view.WordExact :=
  (Memref.isWhole_whole main_v1).wordExact_slice rfl _ (k0_off5_wordsbf16 d i)
theorem xsAt_word (c : Fin 8) : (sqz (xsAt c)).view.WordExact :=
  ((Memref.isWhole_whole cc0_scratch0).wordExact_slice rfl _ (words8 c)).reshape _ _
theorem xrAt_word (c : Fin 8) : (sqz (xrAt c)).view.WordExact :=
  ((Memref.isWhole_whole cc0_scratch1).wordExact_slice rfl _ (words8 c)).reshape _ _
theorem obAt_word (s : Fin 2) : (sqz (obAt s)).view.WordExact :=
  ((Memref.isWhole_whole cc0_scratch3).wordExact_slice rfl _ (words2 s)).reshape _ _
theorem word32 {sp : Space} (m : Memref sig .tc sp S1x128x4096 .f32) : (sqz m).view.WordExact :=
  (View.wordExact_bits rfl).reshape _ _

/-! ## The steps -/

/-- Copy 128 rows of the summand into slot `s`, -/
def ldStart (src : Memref sig .tc .hbm S1x128x4096 .f32) (s : Fin 2) : TP (F := F) PUnit :=
  Prog.lift (.enqueueDma (sqz src) (.here (sqz (afAt s))) (.dma (sem2 cc0_scratch4 s)) (word32 src) (word32 (afAt s)) ⟨Or.inl rfl, trivial⟩)
/-- and wait for it. -/
def ldWait (src : Memref sig .tc .hbm S1x128x4096 .f32) (s : Fin 2) : TP (F := F) PUnit :=
  Prog.lift (.waitDma2 (sem2 cc0_scratch4 s) (sqz src) (sqz (afAt s)) (word32 src) (word32 (afAt s)))
/-- Read slot `s`. -/
def afLoad (s : Fin 2) : TP (F := F) (Vec F S1x128x4096 .f32) :=
  Prog.lift (.load afM (rect2 s).toLoadRect (View.loadsAt_vmem h_S1x128x4096))
/-- Read slot `c` of the rows to send, -/
def xsLoad (c : Fin 8) : TP (F := F) (Vec F S1x128x4096 .bf16) :=
  Prog.lift (.load xsM (rect8 c).toLoadRect (View.loadsAt_vmem h_S1x128x4096))
/-- write it, -/
def xsStore (c : Fin 8) (v : FVec F S1x128x4096 .bf16) : TP (F := F) PUnit :=
  Prog.lift (.store xsM (rect8 c) v Finset.univ
    (View.stores_vmem h_S1x128x4096 ((Memref.isWhole_whole cc0_scratch0).storeExact_slice rfl _ (packed8 c)) (fun _ => rfl)) (.inl rfl))
/-- and send it to device `n`. -/
def xSend (n : Dev nD) (c : Fin 8) : TP (F := F) PUnit :=
  Prog.lift (.enqueueDma (sqz (xsAt c)) (.remote (Dev.tc n) (sqz (xrAt c)) (.dma (sem8 cc0_scratch6 c))) (.dma (sem8 cc0_scratch7 c))
    (xsAt_word c) (xrAt_word c) ⟨⟨rfl, Or.inl rfl⟩, trivial⟩)
/-- Wait for the rows of chunk `c` from the peer along the first axis, -/
def xrWait (c : Fin 8) : TP (F := F) PUnit :=
  Prog.lift (.waitDma2 (sem8 cc0_scratch7 c) (sqz (xsAt c)) (sqz (xrAt c)) (xsAt_word c) (xrAt_word c))
/-- and for the rows sent to have left. -/
def xsWait (c : Fin 8) : TP (F := F) PUnit :=
  Prog.lift (.waitDma2 (sem8 cc0_scratch6 c) (sqz (xrAt c)) (sqz (xsAt c)) (xrAt_word c) (xsAt_word c))
/-- Read slot `c` of the rows received, -/
def xrLoad (c : Fin 8) : TP (F := F) (Vec F S1x128x4096 .bf16) :=
  Prog.lift (.load xrM (rect8 c).toLoadRect (View.loadsAt_vmem h_S1x128x4096))
/-- the weights, -/
def gLoad : TP (F := F) (Vec F S4096 .f32) :=
  Prog.lift (.load gM (Rect.unit (s := S4096) ![0] S4096.size inb_S4096_S4096_0).toLoadRect (View.loadsAt_vmem h_S4096))
/-- and slot `s` of the normalised rows; -/
def obLoad (s : Fin 2) : TP (F := F) (Vec F S1x128x4096 .bf16) :=
  Prog.lift (.load obM (rect2 s).toLoadRect (View.loadsAt_vmem h_S1x128x4096))
/-- write the latter, -/
def obStore (s : Fin 2) (v : FVec F S1x128x4096 .bf16) : TP (F := F) PUnit :=
  Prog.lift (.store obM (rect2 s) v Finset.univ
    (View.stores_vmem h_S1x128x4096 ((Memref.isWhole_whole cc0_scratch3).storeExact_slice rfl _ (packed2 s)) (fun _ => rfl)) (.inl rfl))
/-- copy it to the result, -/
def oCopy (d : Dev nD) (s : Fin 2) (c : Fin 8) : TP (F := F) PUnit :=
  Prog.lift (.enqueueDma (sqz (obAt s)) (.here (oOwn d c)) (.dma (sem2 cc0_scratch5 s)) (obAt_word s) (oOwn_word d c) ⟨Or.inl rfl, trivial⟩)
/-- and to the result of device `n`, on the given semaphores. -/
def oSend (n d : Dev nD) (s : Fin 2) (c : Fin 8) (a b : DmaSem sig) : TP (F := F) PUnit :=
  Prog.lift (.enqueueDma (sqz (obAt s)) (.remote (Dev.tc n) (oOwn d c) (.dma a)) (.dma b) (obAt_word s) (oOwn_word d c) ⟨⟨rfl, Or.inl rfl⟩, trivial⟩)
/-- Wait for the copy to the result, -/
def odWait (d : Dev nD) (s : Fin 2) (c : Fin 8) : TP (F := F) PUnit :=
  Prog.lift (.waitDma2 (sem2 cc0_scratch5 s) (sqz (obAt s)) (oOwn d c) (obAt_word s) (oOwn_word d c))
/-- for a send to have left the slot, -/
def osWait (a : DmaSem sig) (d : Dev nD) (s : Fin 2) (c : Fin 8) : TP (F := F) PUnit :=
  Prog.lift (.waitDma2 a (oOwn d c) (sqz (obAt s)) (oOwn_word d c) (obAt_word s))
/-- and for a chunk of a neighbour's rows to have arrived. -/
def orWait (b : DmaSem sig) (d : Dev nD) (c : Fin 8) : TP (F := F) PUnit :=
  Prog.lift (.waitDma2 b (sqz (obAt 0)) (oOwn d c) (obAt_word 0) (oOwn_word d c))
/-- Forward a chunk of the result to device `n`, -/
def fwd (n : Dev nD) (m : Memref sig .tc .hbm S128x4096 .bf16) (hm : m.view.WordExact) (h : m.view.ref.isScScratch = false) (a b : DmaSem sig) : TP (F := F) PUnit :=
  Prog.lift (.enqueueDma m (.remote (Dev.tc n) m (.dma a) h) (.dma b) hm hm ⟨⟨rfl, Or.inl rfl⟩, trivial⟩)
/-- and wait for a forward. -/
def fwWait (a : DmaSem sig) (m : Memref sig .tc .hbm S128x4096 .bf16) (hm : m.view.WordExact) : TP (F := F) PUnit :=
  Prog.lift (.waitDma2 a m m hm hm)

/-- The devices that the printed body names: the peer along the first axis, -/
def devX (d : Dev nD) : Fin 8 → Dev nD :=
  ![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩, ⟨k0_dev11 d, k0_dev11_lt d⟩]
/-- along the second -/
def devY (d : Dev nD) : Fin 8 → Dev nD :=
  ![⟨k0_dev12 d, k0_dev12_lt d⟩, ⟨k0_dev14 d, k0_dev14_lt d⟩, ⟨k0_dev17 d, k0_dev17_lt d⟩, ⟨k0_dev20 d, k0_dev20_lt d⟩,
    ⟨k0_dev23 d, k0_dev23_lt d⟩, ⟨k0_dev26 d, k0_dev26_lt d⟩, ⟨k0_dev29 d, k0_dev29_lt d⟩, ⟨k0_dev32 d, k0_dev32_lt d⟩]
/-- and the third, -/
def devZ (d : Dev nD) : Fin 8 → Dev nD :=
  ![⟨k0_dev13 d, k0_dev13_lt d⟩, ⟨k0_dev15 d, k0_dev15_lt d⟩, ⟨k0_dev18 d, k0_dev18_lt d⟩, ⟨k0_dev21 d, k0_dev21_lt d⟩,
    ⟨k0_dev24 d, k0_dev24_lt d⟩, ⟨k0_dev27 d, k0_dev27_lt d⟩, ⟨k0_dev30 d, k0_dev30_lt d⟩, ⟨k0_dev33 d, k0_dev33_lt d⟩]
/-- and those of the forwards. -/
def devFY (d : Dev nD) : Fin 4 → Dev nD :=
  ![⟨k0_dev16 d, k0_dev16_lt d⟩, ⟨k0_dev22 d, k0_dev22_lt d⟩, ⟨k0_dev28 d, k0_dev28_lt d⟩, ⟨k0_dev34 d, k0_dev34_lt d⟩]
def devFZ (d : Dev nD) : Fin 4 → Dev nD :=
  ![⟨k0_dev19 d, k0_dev19_lt d⟩, ⟨k0_dev25 d, k0_dev25_lt d⟩, ⟨k0_dev31 d, k0_dev31_lt d⟩, ⟨k0_dev35 d, k0_dev35_lt d⟩]

/-- The slot of a chunk. -/
abbrev slot (c : Fin 8) : Fin 2 := ⟨c.val % 2, Nat.mod_lt _ (by decide)⟩
/-- Chunk `2 i` and chunk `2 i + 1`. -/
abbrev ev (i : Fin 4) : Fin 8 := ⟨2 * i.val, by omega⟩
abbrev od (i : Fin 4) : Fin 8 := ⟨2 * i.val + 1, by omega⟩

/-- The truncated rows. -/
abbrev payX (v : Vec F S1x128x4096 .f32) : FVec F S1x128x4096 .bf16 := k0_pay2 (k0_pay1 v)

/-- First phase, chunk `c`: read the rows to send, truncate and send them. -/
def sendRows (d : Dev nD) (c : Fin 8) : TP (F := F) PUnit := do
  ldStart (aSent d c) (slot c)
  ldWait (aSent d c) (slot c)
  let v ← afLoad (slot c)
  let _ ← xsLoad c
  xsStore c (payX v)
  xSend (devX d c) c

/-- Second phase, chunk `c`: read the kept rows and the received ones. -/
def readRows (d : Dev nD) (c : Fin 8) : TP (F := F) (Vec F S1x128x4096 .f32 × Vec F S1x128x4096 .bf16 × Vec F S4096 .f32) := do
  ldStart (aKept d c) (slot c)
  xrWait c
  ldWait (aKept d c) (slot c)
  let v ← afLoad (slot c)
  let w ← xrLoad c
  let g ← gLoad
  pure (v, w, g)

/-- The waits that free the slot of chunk `c`. -/
def drain (d : Dev nD) (c : Fin 8) : TP (F := F) PUnit := do
  odWait d (slot c) c
  osWait (sem8 cc0_scratch8 c) d (slot c) c
  osWait (sem8 cc0_scratch10 c) d (slot c) c

/-- Store the normalised rows of chunk `c` and start their three copies. -/
def emitRows (d : Dev nD) (c : Fin 8) (x : Vec F S1x128x4096 .f32 × Vec F S1x128x4096 .bf16 × Vec F S4096 .f32) : TP (F := F) PUnit := do
  let _ ← obLoad (slot c)
  obStore (slot c) (k0_pay10 x.1 x.2.1 x.2.2)
  oCopy d (slot c) c
  oSend (devY d c) d (slot c) c (sem8 cc0_scratch8 c) (sem8 cc0_scratch9 c)
  oSend (devZ d c) d (slot c) c (sem8 cc0_scratch10 c) (sem8 cc0_scratch11 c)

/-- Forward an even chunk received from the third axis along the second, -/
def fwdY (d : Dev nD) (i : Fin 4) : TP (F := F) PUnit := do
  orWait (sem8 cc0_scratch11 (ev i)) d (ev i)
  fwd (devFY d i) (oFwY d i) (oFwY_word d i) rfl (sem4 cc0_scratch12 i) (sem4 cc0_scratch13 i)
/-- and an odd one from the second along the third. -/
def fwdZ (d : Dev nD) (i : Fin 4) : TP (F := F) PUnit := do
  orWait (sem8 cc0_scratch9 (od i)) d (od i)
  fwd (devFZ d i) (oFwZ d i) (oFwZ_word d i) rfl (sem4 cc0_scratch14 i) (sem4 cc0_scratch15 i)

/-- The waits for the chunks not forwarded, -/
def restWait (d : Dev nD) (i : Fin 4) : TP (F := F) PUnit := do
  orWait (sem8 cc0_scratch9 (ev i)) d (ev i)
  orWait (sem8 cc0_scratch11 (od i)) d (od i)
/-- and for the forwards, sent and received. -/
def fwdWait (d : Dev nD) (i : Fin 4) : TP (F := F) PUnit := do
  fwWait (sem4 cc0_scratch12 i) (oFwY d i) (oFwY_word d i)
  fwWait (sem4 cc0_scratch14 i) (oFwZ d i) (oFwZ_word d i)
  fwWait (sem4 cc0_scratch13 i) (oFwY d i) (oFwY_word d i)
  fwWait (sem4 cc0_scratch15 i) (oFwZ d i) (oFwZ_word d i)

/-- The entry: tell the three peers, and hear from them. -/
def enter (d : Dev nD) : TP (F := F) PUnit := do
  semSignalWord (⟨k0_dev1 d, k0_dev1_lt d⟩ : Dev nD) (sig.barrier 0 rfl) 1#32
  semSignalWord (⟨k0_dev2 d, k0_dev2_lt d⟩ : Dev nD) (sig.barrier 0 rfl) 1#32
  semSignalWord (⟨k0_dev3 d, k0_dev3_lt d⟩ : Dev nD) (sig.barrier 0 rfl) 1#32
  semWaitWord (sig.barrier 0 rfl) 3#32

/-- Steps one after the other. -/
def allN : (k : ℕ) → (Fin k → TP (F := F) PUnit) → TP (F := F) PUnit
  | 0, _ => pure ⟨⟩
  | k + 1, f => do
    f 0
    allN k fun i => f i.succ

/-- Two chunks of the first phase. -/
def sendPair (d : Dev nD) (i : Fin 4) : TP (F := F) PUnit := do
  sendRows d (ev i)
  sendRows d (od i)

/-- The first two chunks of the second phase, -/
def firstPair (d : Dev nD) : TP (F := F) PUnit := do
  let x ← readRows d (ev 0)
  emitRows d (ev 0) x
  let y ← readRows d (od 0)
  emitRows d (od 0) y
  fwdY d 0
/-- and two later ones, each freeing its slot first. -/
def nextPair (d : Dev nD) (j : Fin 3) : TP (F := F) PUnit := do
  let x ← readRows d (ev j.succ)
  drain d (ev j.castSucc)
  emitRows d (ev j.succ) x
  fwdZ d j.castSucc
  let y ← readRows d (od j.succ)
  drain d (od j.castSucc)
  emitRows d (od j.succ) y
  fwdY d j.succ

/-- The body at device `d`. -/
def steps (d : Dev nD) : TP (F := F) PUnit := do
  enter d
  allN 4 (sendPair d)
  firstPair d
  allN 3 (nextPair d)
  fwdZ d 3
  allN 4 (restWait d)
  drain d (ev 3)
  drain d (od 3)
  allN 8 xsWait
  allN 4 (fwdWait d)

/-- The whole body: the device asks which it is and takes its steps. -/
def body : TP (F := F) PUnit := do
  let d : Dev nD ← Prog.lift .deviceId
  steps d

/-- The printed body is the sequence of steps. -/
theorem body_eq : cc0_body (F := F) aM (Memref.isWhole_whole _) gM (Memref.isWhole_whole _) oM (Memref.isWhole_whole _)
      xsM (Memref.isWhole_whole _) xrM (Memref.isWhole_whole _) afM (Memref.isWhole_whole _) obM (Memref.isWhole_whole _)
      cc0_scratch4 cc0_scratch5 cc0_scratch6 cc0_scratch7 cc0_scratch8 cc0_scratch9 cc0_scratch10 cc0_scratch11
      cc0_scratch12 cc0_scratch13 cc0_scratch14 cc0_scratch15 = body := by
  chain_rfl

end Cert.KernelIdeal.Talk
-- ==== Proof.KernelIdeal.Protocol.lean ====
/-
# The protocol between the devices

Every device has one cell for each of its semaphores that the body uses, and the barrier's. This module names the
cells, the three peers of a device, the rows that each chunk of the result holds, and the schedule: for each round of
each cell, who pays, how much, and which memory with which contents the payment hands over.
-/
module

public import proofs.«01_k».proof.Proof.KernelIdeal.Steps
public import Idealize.ShloMosaic.Lib.Rounds

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A round of the barrier has three payers; other rounds have one. -/
abbrev Du : Type := Fin 3

/-- The ghost state: the pipeline's rounds and the talk's. -/
abbrev UU : Type := UR sig nD τ × Rounds.URounds (GSem nD τ sig) Du

local notation "𝕄" => MT nD τ sig Unit (Elt F) ℕ UU ℕ

abbrev EP : Emb (UR sig nD τ) (MT nD τ sig Unit (Elt F) ℕ UU ℕ) := embL
abbrev ER : Emb (Rounds.URounds (GSem nD τ sig) Du) (MT nD τ sig Unit (Elt F) ℕ UU ℕ) := embR

variable (m : (ℓ : Loc nD τ sig) → Buf (Elt F) ℓ) (ρ : Dev nD → PrngReg)

/-! ## The peers -/

/-- The peer along the first axis of the mesh, -/
def xp (d : Dev nD) : Dev nD := ⟨(d.val + 4) % 8, Nat.mod_lt _ (by decide)⟩
/-- along the second, -/
def yp (d : Dev nD) : Dev nD := ⟨4 * (d.val / 4) + (d.val % 4 + 2) % 4, by have := d.isLt; revert d; decide⟩
/-- and along the third. -/
def zp (d : Dev nD) : Dev nD := ⟨2 * (d.val / 2) + (d.val % 2 + 1) % 2, by have := d.isLt; revert d; decide⟩

theorem xp_xp (d : Dev nD) : xp (xp d) = d := by revert d; decide
theorem yp_yp (d : Dev nD) : yp (yp d) = d := by revert d; decide
theorem zp_zp (d : Dev nD) : zp (zp d) = d := by revert d; decide

/-- The peer in a direction. -/
def peer (p : Du) (d : Dev nD) : Dev nD := match p with | 0 => xp d | 1 => yp d | 2 => zp d
theorem peer_peer (p : Du) (d : Dev nD) : peer p (peer p d) = d := by revert p d; decide
/-- The peers as permutations of the devices. -/
def swap (p : Du) : Dev nD ≃ Dev nD := ⟨peer p, peer p, peer_peer p, peer_peer p⟩

theorem dev1_eq (d : Dev nD) : (⟨k0_dev1 d, k0_dev1_lt d⟩ : Dev nD) = xp d := by
  rw [Fin.ext_iff]; show k0_dev1 d = _; rw [k0_dev1_eq]; revert d; decide
theorem dev2_eq (d : Dev nD) : (⟨k0_dev2 d, k0_dev2_lt d⟩ : Dev nD) = yp d := by
  rw [Fin.ext_iff]; show k0_dev2 d = _; rw [k0_dev2_eq]; revert d; decide
theorem dev3_eq (d : Dev nD) : (⟨k0_dev3 d, k0_dev3_lt d⟩ : Dev nD) = zp d := by
  rw [Fin.ext_iff]; show k0_dev3 d = _; rw [k0_dev3_eq]; revert d; decide

theorem devX_eq (d : Dev nD) (c : Fin 8) : devX d c = xp d := by
  fin_cases c <;> rw [Fin.ext_iff]
  · show k0_dev4 d = _; rw [k0_dev4_eq]; revert d; decide
  · show k0_dev5 d = _; rw [k0_dev5_eq]; revert d; decide
  · show k0_dev6 d = _; rw [k0_dev6_eq]; revert d; decide
  · show k0_dev7 d = _; rw [k0_dev7_eq]; revert d; decide
  · show k0_dev8 d = _; rw [k0_dev8_eq]; revert d; decide
  · show k0_dev9 d = _; rw [k0_dev9_eq]; revert d; decide
  · show k0_dev10 d = _; rw [k0_dev10_eq]; revert d; decide
  · show k0_dev11 d = _; rw [k0_dev11_eq]; revert d; decide

theorem devY_eq (d : Dev nD) (c : Fin 8) : devY d c = yp d := by
  fin_cases c <;> rw [Fin.ext_iff]
  · show k0_dev12 d = _; rw [k0_dev12_eq]; revert d; decide
  · show k0_dev14 d = _; rw [k0_dev14_eq]; revert d; decide
  · show k0_dev17 d = _; rw [k0_dev17_eq]; revert d; decide
  · show k0_dev20 d = _; rw [k0_dev20_eq]; revert d; decide
  · show k0_dev23 d = _; rw [k0_dev23_eq]; revert d; decide
  · show k0_dev26 d = _; rw [k0_dev26_eq]; revert d; decide
  · show k0_dev29 d = _; rw [k0_dev29_eq]; revert d; decide
  · show k0_dev32 d = _; rw [k0_dev32_eq]; revert d; decide

theorem devZ_eq (d : Dev nD) (c : Fin 8) : devZ d c = zp d := by
  fin_cases c <;> rw [Fin.ext_iff]
  · show k0_dev13 d = _; rw [k0_dev13_eq]; revert d; decide
  · show k0_dev15 d = _; rw [k0_dev15_eq]; revert d; decide
  · show k0_dev18 d = _; rw [k0_dev18_eq]; revert d; decide
  · show k0_dev21 d = _; rw [k0_dev21_eq]; revert d; decide
  · show k0_dev24 d = _; rw [k0_dev24_eq]; revert d; decide
  · show k0_dev27 d = _; rw [k0_dev27_eq]; revert d; decide
  · show k0_dev30 d = _; rw [k0_dev30_eq]; revert d; decide
  · show k0_dev33 d = _; rw [k0_dev33_eq]; revert d; decide

theorem devFY_eq (d : Dev nD) (i : Fin 4) : devFY d i = yp d := by
  fin_cases i <;> rw [Fin.ext_iff]
  · show k0_dev16 d = _; rw [k0_dev16_eq]; revert d; decide
  · show k0_dev22 d = _; rw [k0_dev22_eq]; revert d; decide
  · show k0_dev28 d = _; rw [k0_dev28_eq]; revert d; decide
  · show k0_dev34 d = _; rw [k0_dev34_eq]; revert d; decide

theorem devFZ_eq (d : Dev nD) (i : Fin 4) : devFZ d i = zp d := by
  fin_cases i <;> rw [Fin.ext_iff]
  · show k0_dev19 d = _; rw [k0_dev19_eq]; revert d; decide
  · show k0_dev25 d = _; rw [k0_dev25_eq]; revert d; decide
  · show k0_dev31 d = _; rw [k0_dev31_eq]; revert d; decide
  · show k0_dev35 d = _; rw [k0_dev35_eq]; revert d; decide

/-! ## The quarters of the result -/

/-- The quarter of the result that device `d` computes, -/
def qd (d : Dev nD) : Fin 4 := ⟨d.val % 4, Nat.mod_lt _ (by decide)⟩
/-- that its peer along the second axis computes, -/
def qy (d : Dev nD) : Fin 4 := qd (yp d)
/-- along the third, -/
def qz (d : Dev nD) : Fin 4 := qd (zp d)
/-- and the one that comes by way of both. -/
def qf (d : Dev nD) : Fin 4 := qd (yp (zp d))
/-- The device of the same half that computes quarter `q`. -/
def dv (d : Dev nD) (q : Fin 4) : Dev nD := ⟨4 * (d.val / 4) + q.val, by revert q d; decide⟩

theorem dv_qd (d : Dev nD) : dv d (qd d) = d := by revert d; decide
theorem dv_yp (d : Dev nD) (q : Fin 4) : dv (yp d) q = dv d q := by revert q d; decide
theorem dv_zp (d : Dev nD) (q : Fin 4) : dv (zp d) q = dv d q := by revert q d; decide
theorem qy_yp (d : Dev nD) : qy (yp d) = qd d := by revert d; decide
theorem qz_zp (d : Dev nD) : qz (zp d) = qd d := by revert d; decide
theorem qz_yp (d : Dev nD) : qz (yp d) = qf d := by revert d; decide
theorem qy_zp (d : Dev nD) : qy (zp d) = qf d := by revert d; decide
theorem qf_yp (d : Dev nD) : qf (yp d) = qz d := by revert d; decide
theorem qf_zp (d : Dev nD) : qf (zp d) = qy d := by revert d; decide

theorem inbO (q : Fin 4) (k : Fin 8) :
    ∀ a, (![1024 * q.val + 128 * k.val, 0] : Fin 2 → Nat) a + S128x4096.size a ≤ S4096x4096.size a := by
  revert q k; decide +kernel
/-- Chunk `k` of quarter `q`. -/
abbrev rectO (q : Fin 4) (k : Fin 8) : Rect S4096x4096 :=
  Rect.unit (s := S4096x4096) ![1024 * q.val + 128 * k.val, 0] S128x4096.size (inbO q k)
abbrev oC (q : Fin 4) (k : Fin 8) : Memref sig .tc .hbm S128x4096 .bf16 := oM.slice (rectO q k) (fun _ => rfl)

theorem oOwn_eq (d : Dev nD) (c : Fin 8) : oOwn d c = oC (qd d) c := by
  refine Memref.slice_unit_congr _ ?_ _ _ _ _
  rw [k0_off3_eq]; revert c d; decide +kernel
theorem oFwY_eq (d : Dev nD) (i : Fin 4) : oFwY d i = oC (qz d) (ev i) := by
  refine Memref.slice_unit_congr _ ?_ _ _ _ _
  rw [k0_off4_eq]; revert i d; decide +kernel
theorem oFwZ_eq (d : Dev nD) (i : Fin 4) : oFwZ d i = oC (qy d) (od i) := by
  refine Memref.slice_unit_congr _ ?_ _ _ _ _
  rw [k0_off5_eq]; revert i d; decide +kernel

/-! ## The cells -/

/-- The kinds of cell of a device: the barrier; for each chunk the sends and receipts of its three remote copies; for
each forward its sends and receipts; for each slot its two local copies. -/
abbrev SK : Type := (Fin 8 × Fin 6) ⊕ ((Fin 4 × Fin 4) ⊕ (Fin 2 × Fin 2))
abbrev CK : Type := Unit ⊕ SK
instance : DecidableEq SK := inferInstance
instance : DecidableEq CK := inferInstance

@[match_pattern] abbrev CK.bar : CK := .inl ()
@[match_pattern] abbrev CK.ch (k : Fin 8) (j : Fin 6) : CK := .inr (.inl (k, j))
@[match_pattern] abbrev CK.fw (i : Fin 4) (j : Fin 4) : CK := .inr (.inr (.inl (i, j)))
@[match_pattern] abbrev CK.sl (s : Fin 2) (j : Fin 2) : CK := .inr (.inr (.inr (s, j)))

abbrev CK.xs (k : Fin 8) : CK := .ch k 0
abbrev CK.xr (k : Fin 8) : CK := .ch k 1
abbrev CK.ys (k : Fin 8) : CK := .ch k 2
abbrev CK.yr (k : Fin 8) : CK := .ch k 3
abbrev CK.zs (k : Fin 8) : CK := .ch k 4
abbrev CK.zr (k : Fin 8) : CK := .ch k 5
abbrev CK.fys (i : Fin 4) : CK := .fw i 0
abbrev CK.fyr (i : Fin 4) : CK := .fw i 1
abbrev CK.fzs (i : Fin 4) : CK := .fw i 2
abbrev CK.fzr (i : Fin 4) : CK := .fw i 3
abbrev CK.ld (s : Fin 2) : CK := .sl s 0
abbrev CK.od (s : Fin 2) : CK := .sl s 1

/-- The semaphore of a kind of cell. -/
def sNum : SK → Fin 69
  | .inl (k, j) => ⟨5 + 8 * j.val + k.val, by omega⟩
  | .inr (.inl (i, j)) => ⟨53 + 4 * j.val + i.val, by omega⟩
  | .inr (.inr (s, j)) => ⟨1 + 2 * j.val + s.val, by omega⟩
theorem sNum_injective : Function.Injective sNum := by decide +kernel

def dsem (k : SK) : DmaSem sig := sNum k
def semL : CK → SemLoc sig
  | .inl _ => .reg (sig.barrier 0 rfl)
  | .inr k => .dma (dsem k)
theorem semL_injective : Function.Injective semL := by
  rintro (a | a) (b | b) h
  · rfl
  · simp [semL] at h
  · simp [semL] at h
  · simp only [semL, SemLoc.dma.injEq] at h; rw [sNum_injective h]

/-- The kind of a semaphore. -/
def kind (s : SemLoc sig) : Option CK := Function.partialInv semL s
theorem kind_semL (k : CK) : kind (semL k) = some k := Function.partialInv_left semL_injective k

theorem sem_ld (s : Fin 2) : sem2 cc0_scratch4 s = dsem (.inr (.inr (s, 0))) := by revert s; decide +kernel
theorem sem_od (s : Fin 2) : sem2 cc0_scratch5 s = dsem (.inr (.inr (s, 1))) := by revert s; decide +kernel
theorem sem_xs (k : Fin 8) : sem8 cc0_scratch6 k = dsem (.inl (k, 0)) := by revert k; decide +kernel
theorem sem_xr (k : Fin 8) : sem8 cc0_scratch7 k = dsem (.inl (k, 1)) := by revert k; decide +kernel
theorem sem_ys (k : Fin 8) : sem8 cc0_scratch8 k = dsem (.inl (k, 2)) := by revert k; decide +kernel
theorem sem_yr (k : Fin 8) : sem8 cc0_scratch9 k = dsem (.inl (k, 3)) := by revert k; decide +kernel
theorem sem_zs (k : Fin 8) : sem8 cc0_scratch10 k = dsem (.inl (k, 4)) := by revert k; decide +kernel
theorem sem_zr (k : Fin 8) : sem8 cc0_scratch11 k = dsem (.inl (k, 5)) := by revert k; decide +kernel
theorem sem_fys (i : Fin 4) : sem4 cc0_scratch12 i = dsem (.inr (.inl (i, 0))) := by revert i; decide +kernel
theorem sem_fyr (i : Fin 4) : sem4 cc0_scratch13 i = dsem (.inr (.inl (i, 1))) := by revert i; decide +kernel
theorem sem_fzs (i : Fin 4) : sem4 cc0_scratch14 i = dsem (.inr (.inl (i, 2))) := by revert i; decide +kernel
theorem sem_fzr (i : Fin 4) : sem4 cc0_scratch15 i = dsem (.inr (.inl (i, 3))) := by revert i; decide +kernel

/-- A device's cell. -/
abbrev cell (d : Dev nD) (k : CK) : GSem nD τ sig := ((d : Thread nD τ), semL k)
theorem cell_injective : Function.Injective fun dk : Dev nD × CK => cell dk.1 dk.2 := by
  rintro ⟨d, k⟩ ⟨d', k'⟩ h
  have h1 := congrArg Prod.fst h
  have h2 := semL_injective (congrArg Prod.snd h)
  have h3 : d = d' := congrArg Prod.fst h1
  exact Prod.ext h3 h2

/-- The units of a copy of 128 rows of words, -/
def NF : ℕ := (sqz (afAt 0)).view.dmaCredit
/-- and of half words. -/
def NB : ℕ := (sqz (obAt 0)).view.dmaCredit
theorem NF_pos : 0 < NF := View.dmaCredit_pos _ (by decide)
theorem NB_pos : 0 < NB := View.dmaCredit_pos _ (by decide)

theorem credit_af (s : Fin 2) : (sqz (afAt s)).view.dmaCredit = NF := rfl
theorem credit_ob (s : Fin 2) : (sqz (obAt s)).view.dmaCredit = NB := rfl
theorem credit_xs (c : Fin 8) : (sqz (xsAt c)).view.dmaCredit = NB := rfl
theorem credit_xr (c : Fin 8) : (sqz (xrAt c)).view.dmaCredit = NB := rfl
theorem credit_oC (q : Fin 4) (k : Fin 8) : (oC q k).view.dmaCredit = NB := rfl

end Cert.KernelIdeal.Talk
-- ==== Proof.KernelIdeal.Schedule.lean ====
/-
# What each chunk holds, and the schedule of the cells

The contents are functions of the memory at launch: the rows that a device sends, those that it keeps, and the chunk of
the result that it computes from its kept rows, the rows of its peer and the weights. The schedule says what each
round of each cell hands over.
-/
module

public import proofs.«01_k».proof.Proof.KernelIdeal.Protocol

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- A block of one leading axis read as 128 rows. -/
def flat {α : Type} (X : S1x128x4096.Idx → α) : S128x4096.Idx → α :=
  fun i => X (Shape.reshapeEquiv squeezes_S1x128x4096_S128x4096.numel_eq i)

/-- The device's block of the summand at launch. -/
def aV (d : Dev nD) : Buf (Elt F) ((d : Thread nD τ).loc main_arg0) := m ((d : Thread nD τ).loc main_arg0)
/-- The weights at launch, as staged. -/
def gV (d : Dev nD) : Vec F S4096 .f32 :=
  (win0_0.blk (0 : Fin 1)).view.read (Elt F) (m ((d : Thread nD τ).loc main_arg1))
/-- The rows of chunk `c` that device `d` sends, -/
def sentV (d : Dev nD) (c : Fin 8) : Vec F S1x128x4096 .f32 := (aSent d c).view.read (Elt F) (aV m d)
/-- and that it keeps. -/
def keptV (d : Dev nD) (c : Fin 8) : Vec F S1x128x4096 .f32 := (aKept d c).view.read (Elt F) (aV m d)
/-- The truncated rows that it sends. -/
def xV (d : Dev nD) (c : Fin 8) : Vec F S1x128x4096 .bf16 := payX (sentV m d c)
/-- The normalised rows that it computes, -/
def resV (d : Dev nD) (c : Fin 8) : Vec F S1x128x4096 .bf16 := k0_pay10 (keptV m d c) (xV m (xp d) c) (gV m d)
/-- and chunk `k` of quarter `q` of its half of the result. -/
def rowV (d : Dev nD) (q : Fin 4) (k : Fin 8) : Vec F S128x4096 .bf16 := flat (resV m (dv d q) k)

theorem rowV_qd (d : Dev nD) (k : Fin 8) : rowV m d (qd d) k = flat (resV m d k) := by
  unfold rowV; rw [dv_qd]
theorem rowV_yp (d : Dev nD) (q : Fin 4) (k : Fin 8) : rowV m (yp d) q k = rowV m d q k := by
  unfold rowV; rw [dv_yp]
theorem rowV_zp (d : Dev nD) (q : Fin 4) (k : Fin 8) : rowV m (zp d) q k = rowV m d q k := by
  unfold rowV; rw [dv_zp]

/-! ## Memory -/

/-- Device `d` owns the memref, at some contents. -/
def some_ (d : Dev nD) {sp : Space} {sh : Shape} {e : EltTy} (v : Memref sig .tc sp sh e) : sProp 𝕄 :=
  iprop(∃ X, owns (d : Thread nD τ) v fullShare X)
instance some_storable (d : Dev nD) {sp : Space} {sh : Shape} {e : EltTy} (v : Memref sig .tc sp sh e) :
    BI.Storable (upEmb : UEmb _ 𝕄) (some_ (F := F) d v) := by unfold some_; infer_instance

/-- The three shares in which a slot of normalised rows is lent to its three copies. -/
abbrev q1 : PosShare TreeShare := fullShare.left
abbrev q2 : PosShare TreeShare := fullShare.right.left
abbrev q3 : PosShare TreeShare := fullShare.right.right

/-- The chunk of round `r` of a slot's local copies, -/
def ldC (s : Fin 2) (r : ℕ) : Fin 8 := ⟨(2 * r + s.val) % 8, Nat.mod_lt _ (by decide)⟩
/-- and the rows that round reads. -/
def ldSrc (d : Dev nD) (s : Fin 2) (r : ℕ) : Memref sig .tc .hbm S1x128x4096 .f32 :=
  if r < 4 then aSent d (ldC s r) else aKept d (ldC s r)
/-- What a local copy reads, held at the contents at launch. -/
def aPart (d : Dev nD) (v : Memref sig .tc .hbm S1x128x4096 .f32) : sProp 𝕄 :=
  owns (d : Thread nD τ) v fullShare (v.view.read (Elt F) (m (v.view.loc (d : Thread nD τ))))
instance aPart_storable (d : Dev nD) (v) : BI.Storable (upEmb : UEmb _ 𝕄) (aPart (F := F) m d v) := by
  unfold aPart; infer_instance

/-! ## The schedule -/

/-- How many rounds a kind of cell has. -/
def rounds : CK → ℕ
  | .inr (.inr (.inr (_, j))) => if j = 0 then 8 else 4
  | _ => 1
/-- The duties of its rounds. -/
def duts : CK → Finset Du
  | .inl _ => Finset.univ
  | _ => {0}
/-- The units of a duty. -/
def amt : CK → ℕ
  | .inl _ => 1
  | .inr (.inr (.inr (_, j))) => if j = 0 then NF else NB
  | _ => NB
theorem amt_pos (k : CK) : 0 < amt k := by
  rcases k with _ | ⟨k, j⟩ | ⟨i, j⟩ | ⟨s, j⟩
  · exact Nat.one_pos
  · exact NB_pos
  · exact NB_pos
  · show 0 < if j = 0 then NF else NB
    split
    · exact NF_pos
    · exact NB_pos

/-- What the barrier's three payers hand to device `d`: the slots for its rows on the peer along the first axis, and the
chunks that it will write on its other two peers. -/
def payBar (d : Dev nD) : Du → sProp 𝕄
  | 0 => bigSep Finset.univ fun c : Fin 8 => some_ (xp d) (xrAt c)
  | 1 => iprop((bigSep Finset.univ fun c : Fin 8 => some_ (yp d) (oC (qd d) c))
      ∗ bigSep Finset.univ fun i : Fin 4 => some_ (yp d) (oC (qz d) (ev i)))
  | 2 => iprop((bigSep Finset.univ fun c : Fin 8 => some_ (zp d) (oC (qd d) c))
      ∗ bigSep Finset.univ fun i : Fin 4 => some_ (zp d) (oC (qy d) (od i)))

/-- What the copies of chunk `k` hand over. -/
def payCh (d : Dev nD) (k : Fin 8) : Fin 6 → sProp 𝕄
  | 0 => owns (d : Thread nD τ) (xsAt k) fullShare (xV m d k)
  | 1 => owns (d : Thread nD τ) (xrAt k) fullShare (xV m (xp d) k)
  | 2 => owns (d : Thread nD τ) (obAt (slot k)) q2 (resV m d k)
  | 3 => owns (d : Thread nD τ) (oC (qy d) k) fullShare (rowV m d (qy d) k)
  | 4 => owns (d : Thread nD τ) (obAt (slot k)) q3 (resV m d k)
  | 5 => owns (d : Thread nD τ) (oC (qz d) k) fullShare (rowV m d (qz d) k)

/-- What the forwards hand over. -/
def payFw (d : Dev nD) (i : Fin 4) : Fin 4 → sProp 𝕄
  | 0 => owns (d : Thread nD τ) (oC (qz d) (ev i)) fullShare (rowV m d (qz d) (ev i))
  | 1 => owns (d : Thread nD τ) (oC (qf d) (ev i)) fullShare (rowV m d (qf d) (ev i))
  | 2 => owns (d : Thread nD τ) (oC (qy d) (od i)) fullShare (rowV m d (qy d) (od i))
  | 3 => owns (d : Thread nD τ) (oC (qf d) (od i)) fullShare (rowV m d (qf d) (od i))

/-- What round `r` of a slot's local copies hands over. -/
def paySl (d : Dev nD) (s : Fin 2) (r : ℕ) : Fin 2 → sProp 𝕄
  | 0 => iprop(owns (d : Thread nD τ) (afAt s) fullShare ((ldSrc d s r).view.read (Elt F) (m ((ldSrc d s r).view.loc (d : Thread nD τ))))
      ∗ aPart m d (ldSrc d s r))
  | 1 => iprop(owns (d : Thread nD τ) (oC (qd d) (ldC s r)) fullShare (rowV m d (qd d) (ldC s r))
      ∗ owns (d : Thread nD τ) (obAt s) q1 (resV m d (ldC s r)))

def pay (d : Dev nD) (r : ℕ) (u : Du) : CK → sProp 𝕄
  | .inl _ => payBar d u
  | .inr (.inl (k, j)) => payCh m d k j
  | .inr (.inr (.inl (i, j))) => payFw m d i j
  | .inr (.inr (.inr (s, j))) => paySl m d s r j

instance payBar_storable (d : Dev nD) (u : Du) : BI.Storable (upEmb : UEmb _ 𝕄) (payBar (F := F) d u) := by
  unfold payBar; split <;> infer_instance
instance payCh_storable (d : Dev nD) (k) (j) : BI.Storable (upEmb : UEmb _ 𝕄) (payCh (F := F) m d k j) := by
  unfold payCh; split <;> infer_instance
instance payFw_storable (d : Dev nD) (k) (j) : BI.Storable (upEmb : UEmb _ 𝕄) (payFw (F := F) m d k j) := by
  unfold payFw; split <;> infer_instance
instance paySl_storable (d : Dev nD) (s) (r) (j) : BI.Storable (upEmb : UEmb _ 𝕄) (paySl (F := F) m d s r j) := by
  unfold paySl; split <;> infer_instance
instance pay_storable (d : Dev nD) (r : ℕ) (u : Du) (k : CK) : BI.Storable (upEmb : UEmb _ 𝕄) (pay (F := F) m d r u k) := by
  unfold pay; split <;> infer_instance

/-- The schedule. -/
def Rd : Rounds.Schedule (GSem nD τ sig) Du 𝕄 where
  duties g r := (kind g.2).elim ∅ fun k => if r < rounds k then duts k else ∅
  amount g _ _ := (kind g.2).elim 1 amt
  payload g r u := (kind g.2).elim iprop(emp) (pay m g.1.1 r u)
  amount_pos g _ _ _ := by
    cases kind g.2
    · exact Nat.one_pos
    · exact amt_pos _

instance Rd_storable (g : GSem nD τ sig) (r : ℕ) (u : Du) : BI.Storable (upEmb : UEmb _ 𝕄) ((Rd (F := F) m).payload g r u) := by
  show BI.Storable upEmb ((kind g.2).elim iprop(emp) (pay m g.1.1 r u))
  cases kind g.2
  · show BI.Storable upEmb iprop(emp); infer_instance
  · show BI.Storable upEmb (pay m g.1.1 r u _); infer_instance

theorem duties_cell (d : Dev nD) (k : CK) (r : ℕ) (h : r < rounds k) : (Rd (F := F) m).duties (cell d k) r = duts k := by
  show (kind (semL k)).elim ∅ _ = _
  rw [kind_semL]; exact if_pos h
theorem duties_end (d : Dev nD) (k : CK) (r : ℕ) (h : rounds k ≤ r) : (Rd (F := F) m).duties (cell d k) r = ∅ := by
  show (kind (semL k)).elim ∅ _ = _
  rw [kind_semL]; exact if_neg (by omega)
theorem amount_cell (d : Dev nD) (k : CK) (r : ℕ) (u : Du) : (Rd (F := F) m).amount (cell d k) r u = amt k := by
  show (kind (semL k)).elim 1 amt = _
  rw [kind_semL]; rfl
theorem payload_cell (d : Dev nD) (k : CK) (r : ℕ) (u : Du) : (Rd (F := F) m).payload (cell d k) r u = pay m d r u k := by
  show (kind (semL k)).elim iprop(emp) (pay m d r u) = _
  rw [kind_semL]; rfl

/-! ## Levels, and what each device owes -/

/-- The level of a kind of cell: a wait is allowed below everything that is still owed. -/
def lvl : CK → ℕ
  | .inl _ => 1
  | .inr (.inl (k, j)) => if j = 1 then 2 else if j = 3 ∨ j = 5 then 3 + k.val else 0
  | .inr (.inr (.inl (_, j))) => if j = 1 ∨ j = 3 then 100 else 0
  | .inr (.inr (.inr _)) => 0

def L (g : GSem nD τ sig) : Finset Unit := if g.1.2 = .tc then {()} else ∅
def lv (g : GSem nD τ sig) (_ : Unit) : ℕ := (kind g.2).elim 0 lvl
theorem L_of_ne (g : GSem nD τ sig) (h : g.1.2 ≠ .tc) : L g = ∅ := if_neg h
theorem L_cell (d : Dev nD) (s : SemLoc sig) : L ((d : Thread nD τ), s) = {()} := if_pos rfl
theorem lv_cell (d : Dev nD) (k : CK) : lv (cell d k) () = lvl k := by
  show (kind (semL k)).elim 0 lvl = _
  rw [kind_semL]; rfl

/-- What a device owes to its peers, in the order in which it pays. -/
def dues : List (Du × CK) :=
  [(0, .bar), (1, .bar), (2, .bar),
   (0, .xr 0), (0, .xr 1), (0, .xr 2), (0, .xr 3), (0, .xr 4), (0, .xr 5), (0, .xr 6), (0, .xr 7),
   (1, .yr 0), (2, .zr 0),
   (1, .yr 1), (2, .zr 1), (1, .fyr 0),
   (1, .yr 2), (2, .zr 2), (2, .fzr 0),
   (1, .yr 3), (2, .zr 3), (1, .fyr 1),
   (1, .yr 4), (2, .zr 4), (2, .fzr 1),
   (1, .yr 5), (2, .zr 5), (1, .fyr 2),
   (1, .yr 6), (2, .zr 6), (2, .fzr 2),
   (1, .yr 7), (2, .zr 7), (1, .fyr 3), (2, .fzr 3)]

/-- One due of device `d`. -/
def due (d : Dev nD) (e : Du × CK) : CellTallies nD τ sig Unit := tallyAt (cell (peer e.1 d) e.2) () (amt e.2)
/-- What device `d` still owes after its first `n` payments. -/
def owed (d : Dev nD) (n : ℕ) : CellTallies nD τ sig Unit := ((dues.drop n).map (due d)).sum

theorem owed_succ (d : Dev nD) (n : ℕ) (e : Du × CK) (h : dues[n]? = some e) :
    owed d n = owed d (n + 1) + due d e := by
  obtain ⟨hn, he⟩ := List.getElem?_eq_some_iff.mp h
  unfold owed
  rw [List.drop_eq_getElem_cons hn, List.map_cons, List.sum_cons, he, add_comm]
theorem owed_end (d : Dev nD) : owed d 35 = 0 := rfl

theorem sum_pos {l : List (Du × CK)} {d : Dev nD} {g : GSem nD τ sig} {u : Unit} (h : 0 < (l.map (due d)).sum g u) :
    ∃ e ∈ l, g = cell (peer e.1 d) e.2 := by
  induction l with
  | nil => exact absurd h (Nat.lt_irrefl 0)
  | cons e l ih =>
    rw [List.map_cons, List.sum_cons, Pi.add_apply, Finsupp.add_apply] at h
    rcases Nat.add_pos_iff_pos_or_pos.mp h with h | h
    · refine ⟨e, List.mem_cons_self, ?_⟩
      unfold due at h
      rw [tallyAt_apply] at h
      by_contra hn
      rw [if_neg (fun h' => hn h'.1)] at h
      exact Nat.lt_irrefl 0 h
    · obtain ⟨e', he', hg⟩ := ih h
      exact ⟨e', List.mem_cons_of_mem _ he', hg⟩

/-- A wait on a cell whose level is below every due that is left. -/
theorem mayWait (d : Dev nD) (k : CK) (n : ℕ) (h : ∀ e ∈ dues.drop n, lvl k < lvl e.2) :
    (levAts L lv : sProp 𝕄) ⊢ MayWait (d : Thread nD τ) (semL k) () (owed d n) :=
  Pipeline.mayWait_of_levAts (by rw [L_cell]; exact Finset.mem_singleton_self _) fun g i hg => by
    obtain ⟨e, he, rfl⟩ := sum_pos hg
    exact ⟨by rw [L_cell]; exact Finset.mem_singleton_self _, by
      rw [show lv ((d : Thread nD τ), semL k) () = lvl k from lv_cell d k, show lv _ i = lvl e.2 from lv_cell _ _]; exact h e he⟩

end Cert.KernelIdeal.Talk
-- ==== Proof.KernelIdeal.Rules.lean ====
/-
# The rules of single steps, at this kernel's schedule

Each rule takes what a step needs as ownership of memrefs with contents, positions, tokens and credits of named cells,
and gives what comes back. The records of all cells, which everybody may read, go into every rule.
-/
module

public import proofs.«01_k».proof.Proof.KernelIdeal.Schedule

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running a program on device `d` ends in `Q`. -/
def run (d : Dev nD) {α : Type} (p : TP (F := F) α) (Q : α → sProp 𝕄) : sProp 𝕄 :=
  wp frame (wpE (defs₀ (F := F)) 𝒱₀ (d : Thread nD τ) none) Set.univ p Q

theorem run_bind (d : Dev nD) {α β : Type} (p : TP (F := F) α) (k : α → TP (F := F) β) (Q : β → sProp 𝕄) :
    run d (p >>= k) Q = run d p fun a => run d (k a) Q := wp_bind _ _ _ _ _ _

theorem run_ret (d : Dev nD) {α : Type} (a : α) (Q : α → sProp 𝕄) :
    Q a ⊢ wp frame (wpE (defs₀ (F := F)) 𝒱₀ (d : Thread nD τ) none) Set.univ (Prog.ret a) Q :=
  fupd_intro (PROP := sProp 𝕄)

/-! ## Records, positions, tokens, credits -/

/-- The invariant of every cell, that every cell's first round is reached, and the levels. -/
def recs : sProp 𝕄 :=
  iprop((∃ κ : Dev nD × CK → ℕ, bigSep Finset.univ fun dk : Dev nD × CK => cellInv ER (Rd m) (κ dk) (cell dk.1 dk.2))
    ∗ (bigSep Finset.univ fun dk : Dev nD × CK => reached ER (cell dk.1 dk.2) 0) ∗ levAts L lv)
instance recs_persistent : BI.Persistent (recs (F := F) m) := by unfold recs; infer_instance

def tok (d : Dev nD) (k : CK) (r : ℕ) (u : Du) : sProp 𝕄 := dutyTok ER (cell d k) r u
def pos (d : Dev nD) (k : CK) (r : ℕ) : sProp 𝕄 := atPos ER (cell d k) r ∅ 0
def crd (d : Dev nD) (k : CK) : sProp 𝕄 := cred (tallyAt (cell d k) () (amt k))
def rch (d : Dev nD) (k : CK) (r : ℕ) : sProp 𝕄 := reached ER (cell d k) r
instance rch_persistent (d : Dev nD) (k : CK) (r : ℕ) : BI.Persistent (rch (F := F) d k r) := by unfold rch; infer_instance
/-- What the device owes after `n` payments. -/
def owing (d : Dev nD) (n : ℕ) : sProp 𝕄 := iprop(∃ W, owes (d : Thread nD τ) (owed d n) W)

theorem recs_inv (d : Dev nD) (k : CK) : recs m ⊢ iprop(∃ κ : ℕ, cellInv ER (Rd (F := F) m) κ (cell d k)) := by
  unfold recs
  iintro ⟨⟨%κ, H⟩, -⟩
  iexists κ (d, k)
  iapply (show (bigSep Finset.univ fun dk : Dev nD × CK => cellInv ER (Rd (F := F) m) (κ dk) (cell dk.1 dk.2))
    ⊢ cellInv ER (Rd (F := F) m) (κ (d, k)) (cell d k) from bigSep_elim (Finset.mem_univ (d, k)))
  iexact H
theorem recs_rch (d : Dev nD) (k : CK) : recs m ⊢ rch (F := F) d k 0 := by
  unfold recs
  iintro ⟨-, H, -⟩
  iapply (show (bigSep Finset.univ fun dk : Dev nD × CK => (reached ER (cell dk.1 dk.2) 0 : sProp 𝕄)) ⊢ rch d k 0
    from bigSep_elim (Finset.mem_univ (d, k)))
  iexact H
theorem recs_lev : recs m ⊢ (levAts L lv : sProp 𝕄) := by
  unfold recs
  iintro ⟨-, -, H⟩
  iexact H

/-! ## Memory -/

/-- The squeezed view of a slot holds the slot's rows. -/
theorem owns_sqz (d : Dev nD) {sp : Space} {e : EltTy} (v : Memref sig .tc sp S1x128x4096 e) (q : PosShare TreeShare)
    (X : S1x128x4096.Idx → Elt F e) :
    (owns (d : Thread nD τ) (sqz v) q (flat X) : sProp 𝕄) = owns (d : Thread nD τ) v q X := by
  unfold owns
  have hset : (sqz v).view.set = v.view.set := View.set_reshape _ _
  have hr (f : v.view.ty.Contents (Elt F)) : ((sqz v).view.read (Elt F) f = flat X) = (v.view.read (Elt F) f = X) := by
    rw [show (sqz v).view.read (Elt F) f = flat (v.view.read (Elt F) f) from rfl]
    refine propext ⟨fun h => funext fun i => ?_, fun h => by rw [h]⟩
    have := congrFun h ((Shape.reshapeEquiv squeezes_S1x128x4096_S128x4096.numel_eq).symm i)
    simpa only [flat, Equiv.apply_symm_apply] using this
  show iprop(∃ f, ⌜(sqz v).view.read (Elt F) f = flat X⌝ ∗ (v.view.loc (d : Thread nD τ) ↦[(sqz v).view.set]{q} f)) = _
  rw [hset]; simp only [hr]

theorem flat_surj {α : Type} (Y : S128x4096.Idx → α) : ∃ X, flat X = Y :=
  ⟨fun i => Y ((Shape.reshapeEquiv squeezes_S1x128x4096_S128x4096.numel_eq).symm i), funext fun i => by
    unfold flat; exact congrArg Y (Equiv.symm_apply_apply _ i)⟩

theorem some_sqz (d : Dev nD) {sp : Space} {e : EltTy} (v : Memref sig .tc sp S1x128x4096 e) :
    (some_ d v : sProp 𝕄) ⊢ some_ d (sqz v) := by
  unfold some_
  iintro ⟨%X, H⟩
  iexists flat X
  rw [owns_sqz]
  iexact H

theorem some_intro (d : Dev nD) {sp : Space} {sh : Shape} {e : EltTy} (v : Memref sig .tc sp sh e) (X : sh.Idx → Elt F e) :
    (owns (d : Thread nD τ) v fullShare X : sProp 𝕄) ⊢ some_ d v := by
  unfold some_
  iintro H; iexists X; iexact H

/-- Two shares of a memref make the whole of them. -/
theorem owns_join (d : Dev nD) {sp : Space} {sh : Shape} {e : EltTy} (v : Memref sig .tc sp sh e) (X : sh.Idx → Elt F e)
    {q r s : PosShare TreeShare} (h : q ∈ r ·? s) :
    iprop(owns (d : Thread nD τ) v r X ∗ owns (d : Thread nD τ) v s X) ⊢ (owns (d : Thread nD τ) v q X : sProp 𝕄) := by
  unfold owns
  iintro ⟨⟨%f, %hf, Hf⟩, ⟨%g, %hg, Hg⟩⟩
  have hfg : ∀ i ∈ v.view.set, f i = g i := by
    intro i hi
    rw [View.set, Finset.mem_map] at hi
    obtain ⟨x, -, rfl⟩ := hi
    have := congrFun (hf.trans hg.symm) x
    rwa [View.read_apply, View.read_apply, cast_inj] at this
  ihave Hg := (Entails.of_eq (show (v.view.loc (d : Thread nD τ) ↦[v.view.set]{s} g : sProp 𝕄)
    = (v.view.loc (d : Thread nD τ) ↦[v.view.set]{s} f) from (pointsTo_congr hfg).symm)) $$ Hg
  iexists f
  isplitr
  · ipureintro; exact hf
  iapply (show iprop((v.view.loc (d : Thread nD τ) ↦[v.view.set]{r} f) ∗ (v.view.loc (d : Thread nD τ) ↦[v.view.set]{s} f))
    ⊢ (v.view.loc (d : Thread nD τ) ↦[v.view.set]{q} f : sProp 𝕄) from (pointsTo_share h).2)
  isplitl [Hf]; · iexact Hf
  iexact Hg

theorem owns_split (d : Dev nD) {sp : Space} {sh : Shape} {e : EltTy} (v : Memref sig .tc sp sh e) (X : sh.Idx → Elt F e)
    {q r s : PosShare TreeShare} (h : q ∈ r ·? s) :
    (owns (d : Thread nD τ) v q X : sProp 𝕄) ⊢ iprop(owns (d : Thread nD τ) v r X ∗ owns (d : Thread nD τ) v s X) := by
  unfold owns
  iintro ⟨%f, %hf, Hf⟩
  ihave H := (pointsTo_share h).1 $$ Hf
  icases H with ⟨H1, H2⟩
  isplitl [H1]
  · iexists f; isplitr
    · ipureintro; exact hf
    iexact H1
  · iexists f; isplitr
    · ipureintro; exact hf
    iexact H2

/-! ## Steps -/

/-- A load of a slot reads what the slot holds. -/
theorem run_load (d : Dev nD) {cs : CoreSpace} {sh : Shape} {e : EltTy} (v : Memref sig .tc cs sh e) (r : Rect sh) (hr : ∀ a, r.stride a = 1)
    (hl : v.view.LoadsAt r.toLoadRect) (q : PosShare TreeShare) (X : r.shape.Idx → Elt F e) (Q : (r.shape.Idx → Elt F e) → sProp 𝕄) :
    (owns (d : Thread nD τ) (v.slice r hr) q X : sProp 𝕄)
      ⊢ iprop((owns (d : Thread nD τ) (v.slice r hr) q X -∗ Q X) -∗ run d (Prog.lift (.load v r.toLoadRect hl)) Q) := by
  unfold run owns
  iintro ⟨%f, %hf, Hf⟩ Hk
  iapply (wp_load_rect 𝒱₀ (d : Thread nD τ) none Set.univ (m := v) (r := r) (hl := hl) (k := Prog.ret) (Finset.Subset.refl _)) $$ Hf
  iintro Hf
  iapply (run_ret d)
  rw [show (v.access r).read (Elt F) f = X from hf]
  iapply Hk
  iexists f
  isplitr
  · ipureintro; exact hf
  iexact Hf

/-- A store into a slot. -/
theorem run_store (d : Dev nD) {cs : CoreSpace} {sh : Shape} {e : EltTy} (v : Memref sig .tc cs sh e) (r : Rect sh) (hr : ∀ a, r.stride a = 1)
    (w : r.shape.Idx → Elt F e) (hx : (v.access r).Stores Finset.univ) (hm) (Q : PUnit → sProp 𝕄) :
    (some_ d (v.slice r hr) : sProp 𝕄)
      ⊢ iprop((owns (d : Thread nD τ) (v.slice r hr) fullShare w -∗ Q ⟨⟩) -∗ run d (Prog.lift (.store v r w Finset.univ hx hm)) Q) := by
  unfold run some_
  iintro ⟨%X, H⟩ Hk
  unfold owns
  icases H with ⟨%f, %hf, Hf⟩
  iapply (wp_store 𝒱₀ (d : Thread nD τ) none Set.univ (m := v) (r := r) (Mk := Finset.univ) (hx := hx) (hm := hm) (k := Prog.ret) (w := w)
    (S := (v.access r).set) (by rw [View.setOn_univ])) $$ Hf
  iintro Hf
  iapply (run_ret d)
  iapply Hk
  iexists (v.access r).write (Elt F) f w Finset.univ
  isplitr
  · ipureintro; exact View.read_write_univ _ _
  iexact Hf

/-- A wait on one of the device's cells for its round. -/
theorem run_wait (d : Dev nD) (k : SK) (r n : ℕ) (hr : r < rounds (.inr k)) (hl : ∀ e ∈ dues.drop n, lvl (.inr k) < lvl e.2)
    {s : DmaSem sig} (hs : s = dsem k) {sp sp' : Space} {sh sh' : Shape} {e e' : EltTy} (src : Memref sig .tc sp' sh' e') (dst : Memref sig .tc sp sh e)
    (h1 : src.view.WordExact) (h2 : dst.view.WordExact) (ha : dst.view.dmaCredit = amt (.inr k)) (Q : PUnit → sProp 𝕄) :
    iprop(recs m ∗ crd d (.inr k) ∗ owing d n ∗ pos d (.inr k) r)
      ⊢ iprop((owing d n -∗ pos d (.inr k) (r + 1) -∗ rch d (.inr k) (r + 1) -∗ pay m d r 0 (.inr k) -∗ Q ⟨⟩)
        -∗ run d (Prog.lift (.waitDma2 s src dst h1 h2)) Q) := by
  subst hs
  have hE : 0 + dst.view.dmaCredit = (Rd (F := F) m).expect ((d : Thread nD τ), .dma (dsem k)) r := by
    unfold Rounds.Schedule.expect Rounds.Schedule.amountOf
    rw [show (((d : Thread nD τ), SemLoc.dma (dsem k)) : GSem nD τ sig) = cell d (.inr k) from rfl, duties_cell m d (.inr k) r hr]
    show _ = ∑ u ∈ ({0} : Finset Du), _
    rw [Finset.sum_singleton, amount_cell, ha, zero_add]
  have hp : (bigSep ((Rd (F := F) m).duties ((d : Thread nD τ), .dma (dsem k)) r \ ∅)
      fun u => (Rd (F := F) m).payload ((d : Thread nD τ), .dma (dsem k)) r u) = pay m d r 0 (.inr k) := by
    rw [show (((d : Thread nD τ), SemLoc.dma (dsem k)) : GSem nD τ sig) = cell d (.inr k) from rfl, duties_cell m d (.inr k) r hr,
      Finset.sdiff_empty]
    show (bigSep ({0} : Finset Du) _) = _
    rw [bigSep_singleton, payload_cell]
  unfold run owing crd pos
  iintro ⟨#Hrec, Hc, ⟨%W, Ho⟩, Hp⟩ Hk
  ihave HI := (recs_inv m d (.inr k)) $$ Hrec
  icases HI with ⟨%κ, #HI⟩
  iapply (Rounds.wp_wait_rest_token 𝒱₀ ER (Rd m) (d : Thread nD τ) none (κ := κ) (k := Prog.ret)
      (wpE_waitDma2_eq 𝒱₀ (d : Thread nD τ) none Set.univ (src := src) (dst := dst) (hsrc := h1) (hdst := h2)) (Set.mem_univ _) () (O := owed d n) (W := W) (R := r) (m := 0) (T := ∅)
      hE) $$ [Hc Ho Hp]
  · isplitr; · iexact HI
    isplitl [Hc]; · rw [ha]; iexact Hc
    isplitl [Ho]; · iexact Ho
    isplitr; · iapply (mayWait d (.inr k) n hl); iapply (recs_lev m); iexact Hrec
    iexact Hp
  iintro ⟨Ho, Hp, Hrch, Hpay⟩
  iapply (run_ret d)
  iapply Hk $$ [Ho] [Hp] [Hrch] [Hpay]
  · iexists _; iexact Ho
  · iexact Hp
  · unfold rch; iexact Hrch
  · iapply (Entails.of_eq hp); iexact Hpay

/-- A local copy, paying a round of one of the device's cells. -/
theorem run_copy (d : Dev nD) (k : SK) (r : ℕ) (hr : r < rounds (.inr k))
    {s : DmaSem sig} (hs : s = dsem k) {sp sp' : Space} {sh : Shape} {e : EltTy} (src : Memref sig .tc sp sh e) (dst : Memref sig .tc sp' sh e)
    (h1 : src.view.WordExact) (h2 : dst.view.WordExact) (h3) (ha : dst.view.dmaCredit = amt (.inr k)) (q : PosShare TreeShare) (X : sh.Idx → Elt F e)
    (hpay : iprop(owns (d : Thread nD τ) dst fullShare X ∗ owns (d : Thread nD τ) src q X) ⊢ pay m d r 0 (.inr k)) (Q : PUnit → sProp 𝕄) :
    iprop(recs m ∗ owns (d : Thread nD τ) src q X ∗ some_ d dst ∗ tok d (.inr k) r 0 ∗ rch d (.inr k) r)
      ⊢ iprop((crd d (.inr k) -∗ Q ⟨⟩) -∗ run d (Prog.lift (.enqueueDma src (.here dst) (.dma s) h1 h2 h3)) Q) := by
  subst hs
  unfold run tok rch some_
  iintro ⟨#Hrec, Hs, ⟨%Y, Hd⟩, Ht, Hr⟩ Hk
  ihave HI := (recs_inv m d (.inr k)) $$ Hrec
  icases HI with ⟨%κ, #HI⟩
  unfold owns
  icases Hs with ⟨%fs, %hfs, Hs⟩
  icases Hd with ⟨%fd, %hfd, Hd⟩
  iapply (Rounds.wp_copy_pointsTo 𝒱₀ ER (Rd m) (d : Thread nD τ) none (κ := κ) (k := Prog.ret) (src := src) (dst := dst) (r := r) (d := 0)
      (sem := .dma (dsem k)) (hsrc := h1) (hdst := h2) (hsem := h3) (q := q) (fs := fs) (fd := fd)
      (by rw [show (((d : Thread nD τ), SemLoc.dma (dsem k)) : GSem nD τ sig) = cell d (.inr k) from rfl, duties_cell m d (.inr k) r hr]
          exact Finset.mem_singleton_self _)
      () (amt (.inr k)) ha (amount_cell m d (.inr k) r 0)
      (by
        rw [show (((d : Thread nD τ), SemLoc.dma (dsem k)) : GSem nD τ sig) = cell d (.inr k) from rfl, payload_cell]
        refine Idealize.SL.BI.BIBase.Entails.trans ?_ hpay
        iintro ⟨Hd, Hs⟩
        isplitl [Hd]
        · unfold owns; iexists dst.view.write (Elt F) fd (src.view.read (Elt F) fs) Finset.univ
          isplitr
          · ipureintro; rw [View.read_write_univ]; exact hfs
          iexact Hd
        · unfold owns; iexists fs
          isplitr
          · ipureintro; exact hfs
          iexact Hs)) $$ [Hs Hd Ht Hr]
  · isplitr; · iexact HI
    isplitl [Hs]; · iexact Hs
    isplitl [Hd]; · iexact Hd
    isplitl [Ht]; · iexact Ht
    iexact Hr
  iintro Hc
  iapply (run_ret d)
  iapply Hk
  unfold crd
  iexact Hc

/-- A remote copy, paying a due of the device. -/
theorem run_send (d : Dev nD) (p : Du) {n' : Dev nD} (hn' : n' = peer p d) (k₁ k₂ : SK) (n : ℕ) (hn : dues[n]? = some (p, .inr k₂))
    (hr₁ : 0 < rounds (.inr k₁)) (hr₂ : 0 < rounds (.inr k₂))
    {s₁ s₂ : DmaSem sig} (hs₁ : s₁ = dsem k₁) (hs₂ : s₂ = dsem k₂)
    {sp sp' : Space} {sh : Shape} {e : EltTy} (src : Memref sig .tc sp sh e) (dst : Memref sig .tc sp' sh e)
    (hsc : dst.view.ref.isScScratch = false)
    (h1 : src.view.WordExact) (h2 : dst.view.WordExact) (h3) (ha₁ : dst.view.dmaCredit = amt (.inr k₁)) (ha₂ : dst.view.dmaCredit = amt (.inr k₂))
    (q : PosShare TreeShare) (X : sh.Idx → Elt F e)
    (hpay₁ : owns (d : Thread nD τ) src q X ⊢ pay m d 0 0 (.inr k₁))
    (hpay₂ : owns (peer p d : Thread nD τ) dst fullShare X ⊢ pay m (peer p d) 0 0 (.inr k₂)) (Q : PUnit → sProp 𝕄) :
    iprop(recs m ∗ owns (d : Thread nD τ) src q X ∗ some_ (peer p d) dst ∗ owing d n ∗ tok d (.inr k₁) 0 0 ∗ tok (peer p d) (.inr k₂) 0 0)
      ⊢ iprop((crd d (.inr k₁) -∗ owing d (n + 1) -∗ Q ⟨⟩)
        -∗ run d (Prog.lift (.enqueueDma src (.remote (Dev.tc n') dst (.dma s₁) hsc) (.dma s₂) h1 h2 h3)) Q) := by
  subst hs₁; subst hs₂; subst hn'
  unfold run tok some_ owing
  iintro ⟨#Hrec, Hs, ⟨%Y, Hd⟩, ⟨%W, Ho⟩, Ht₁, Ht₂⟩ Hk
  ihave HI := (recs_inv m d (.inr k₁)) $$ Hrec
  icases HI with ⟨%κ₁, #HI₁⟩
  ihave HI := (recs_inv m (peer p d) (.inr k₂)) $$ Hrec
  icases HI with ⟨%κ₂, #HI₂⟩
  ihave #Hr₁ := (recs_rch m d (.inr k₁)) $$ Hrec
  ihave #Hr₂ := (recs_rch m (peer p d) (.inr k₂)) $$ Hrec
  unfold owns
  icases Hs with ⟨%fs, %hfs, Hs⟩
  icases Hd with ⟨%fd, %hfd, Hd⟩
  iapply (Rounds.wp_send_pointsTo 𝒱₀ ER (Rd m) (d : Thread nD τ) none (c' := (peer p d : Thread nD τ)) (κ₁ := κ₁) (κ₂ := κ₂) (k := Prog.ret)
      (src := src) (dst := dst) (hsc := hsc) (r₁ := 0) (r₂ := 0) (d₁ := 0) (d₂ := 0)
      (sS := .dma (dsem k₁)) (sem := .dma (dsem k₂)) (hsrc := h1) (hdst := h2) (hsem := h3) (q := q) (fs := fs) (fd := fd) (W := W)
      (by rw [show (((d : Thread nD τ), SemLoc.dma (dsem k₁)) : GSem nD τ sig) = cell d (.inr k₁) from rfl, duties_cell m d (.inr k₁) 0 hr₁]
          exact Finset.mem_singleton_self _)
      (by rw [show (((peer p d : Thread nD τ), SemLoc.dma (dsem k₂)) : GSem nD τ sig) = cell (peer p d) (.inr k₂) from rfl,
            duties_cell m (peer p d) (.inr k₂) 0 hr₂]
          exact Finset.mem_singleton_self _)
      () () (amt (.inr k₂)) ha₂ ((amount_cell m d (.inr k₁) 0 0).trans (ha₁.symm.trans ha₂)) (amount_cell m (peer p d) (.inr k₂) 0 0)
      (owed d (n + 1)) (owed_succ d n _ hn)
      (by
        rw [show (((d : Thread nD τ), SemLoc.dma (dsem k₁)) : GSem nD τ sig) = cell d (.inr k₁) from rfl, payload_cell]
        refine Idealize.SL.BI.BIBase.Entails.trans ?_ hpay₁
        unfold owns
        iintro Hs
        iexists fs
        isplitr
        · ipureintro; exact hfs
        iexact Hs)
      (by
        rw [show (((peer p d : Thread nD τ), SemLoc.dma (dsem k₂)) : GSem nD τ sig) = cell (peer p d) (.inr k₂) from rfl, payload_cell]
        refine Idealize.SL.BI.BIBase.Entails.trans ?_ hpay₂
        unfold owns
        iintro Hd
        iexists dst.view.write (Elt F) fd (src.view.read (Elt F) fs) Finset.univ
        isplitr
        · ipureintro; rw [View.read_write_univ]; exact hfs
        iexact Hd)) $$ [Hs Hd Ho Ht₁ Ht₂]
  · isplitr; · iexact HI₁
    isplitr; · iexact HI₂
    isplitl [Hs]; · iexact Hs
    isplitl [Hd]; · iexact Hd
    isplitl [Ho]; · iexact Ho
    isplitl [Ht₁]; · iexact Ht₁
    isplitr; · unfold rch; iexact Hr₁
    isplitl [Ht₂]; · iexact Ht₂
    unfold rch; iexact Hr₂
  iintro ⟨Hc, Ho⟩
  iapply (run_ret d)
  iapply Hk $$ [Hc]
  · unfold crd; rw [show amt (.inr k₁) = amt (.inr k₂) from ha₁.symm.trans ha₂]; iexact Hc
  · iexists W; iexact Ho

/-- A signal to the barrier of a peer, paying a due. -/
theorem run_signal (d : Dev nD) (p : Du) {n' : Dev nD} (hn' : n' = peer p d) (n : ℕ) (hn : dues[n]? = some (p, .bar)) (Q : PUnit → sProp 𝕄) :
    iprop(recs m ∗ owing d n ∗ tok (peer p d) .bar 0 p ∗ payBar (peer p d) p)
      ⊢ iprop((owing d (n + 1) -∗ Q ⟨⟩) -∗ run d (semSignalWord n' (sig.barrier 0 rfl) 1#32) Q) := by
  subst hn'
  unfold run tok owing
  iintro ⟨#Hrec, ⟨%W, Ho⟩, Ht, Hpay⟩ Hk
  ihave HI := (recs_inv m (peer p d) .bar) $$ Hrec
  icases HI with ⟨%κ, #HI⟩
  ihave #Hr := (recs_rch m (peer p d) .bar) $$ Hrec
  unfold semSignalWord
  iapply (Rounds.wp_signal 𝒱₀ ER (Rd m) (d : Thread nD τ) none (dst := (peer p d : Thread nD τ)) (κ := κ) (r := 0) (d := p) (k := Prog.ret) (W := W)
      (sem := sig.barrier 0 rfl)
      (by rw [show (((peer p d : Thread nD τ), SemLoc.reg (sig.barrier 0 rfl)) : GSem nD τ sig) = cell (peer p d) .bar from rfl,
            duties_cell m (peer p d) .bar 0 Nat.one_pos]
          exact Finset.mem_univ _)
      ((amount_cell m (peer p d) .bar 0 p).trans (show amt CK.bar = 1 from rfl)) () (owed d (n + 1)) (owed_succ d n _ hn)) $$ [Ho Ht Hpay]
  · isplitr; · iexact HI
    isplitl [Ho]; · iexact Ho
    isplitl [Ht]; · iexact Ht
    isplitl [Hpay]
    · rw [show (((peer p d : Thread nD τ), SemLoc.reg (sig.barrier 0 rfl)) : GSem nD τ sig) = cell (peer p d) .bar from rfl, payload_cell,
        show pay m (peer p d) 0 p CK.bar = payBar (peer p d) p from rfl]
      iexact Hpay
    unfold rch; iexact Hr
  iintro Ho
  iapply (run_ret d)
  iapply Hk
  iexists W; iexact Ho

/-- The wait for the three peers. -/
theorem run_barrier (d : Dev nD) (n : ℕ) (hl : ∀ e ∈ dues.drop n, lvl .bar < lvl e.2) (Q : PUnit → sProp 𝕄) :
    iprop(recs m ∗ cred (tallyAt (cell d .bar) () 3) ∗ owing d n ∗ pos d .bar 0)
      ⊢ iprop((owing d n -∗ pos d .bar 1 -∗ payBar d 0 -∗ payBar d 1 -∗ payBar d 2 -∗ Q ⟨⟩)
        -∗ run d (semWaitWord (sig.barrier 0 rfl) 3#32) Q) := by
  have hE : 0 + (BitVec.toInt 3#32).toNat = (Rd (F := F) m).expect ((d : Thread nD τ), .reg (sig.barrier 0 rfl)) 0 := by
    unfold Rounds.Schedule.expect Rounds.Schedule.amountOf
    rw [show (((d : Thread nD τ), SemLoc.reg (sig.barrier 0 rfl)) : GSem nD τ sig) = cell d .bar from rfl, duties_cell m d .bar 0 Nat.one_pos]
    simp only [amount_cell]
    decide
  have hp : (bigSep ((Rd (F := F) m).duties ((d : Thread nD τ), .reg (sig.barrier 0 rfl)) 0 \ ∅)
      fun u => (Rd (F := F) m).payload ((d : Thread nD τ), .reg (sig.barrier 0 rfl)) 0 u) = iprop(payBar d 0 ∗ payBar d 1 ∗ payBar d 2) := by
    rw [show (((d : Thread nD τ), SemLoc.reg (sig.barrier 0 rfl)) : GSem nD τ sig) = cell d .bar from rfl, duties_cell m d .bar 0 Nat.one_pos,
      Finset.sdiff_empty]
    show (bigSep (Finset.univ : Finset (Fin 3)) _) = _
    rw [bigSep_univ_eq_bigSepL [0, 1, 2] (by decide) (by decide)]
    simp only [payload_cell]
    simp only [bigSepL, pay]
    rfl
  unfold run owing pos
  iintro ⟨#Hrec, Hc, ⟨%W, Ho⟩, Hp⟩ Hk
  ihave HI := (recs_inv m d .bar) $$ Hrec
  icases HI with ⟨%κ, #HI⟩
  unfold semWaitWord
  iapply (Rounds.wp_wait_rest_token 𝒱₀ ER (Rd m) (d : Thread nD τ) none (κ := κ) (k := Prog.ret)
      (wpE_semWait_eq 𝒱₀ (d : Thread nD τ) none Set.univ) (Set.mem_univ _) () (O := owed d n) (W := W) (R := 0) (m := 0) (T := ∅)
      hE) $$ [Hc Ho Hp]
  · isplitr; · iexact HI
    isplitl [Hc]; · iexact Hc
    isplitl [Ho]; · iexact Ho
    isplitr; · iapply (mayWait d .bar n hl); iapply (recs_lev m); iexact Hrec
    iexact Hp
  iintro ⟨Ho, Hp, -, Hpay⟩
  iapply (run_ret d)
  ihave Hpay := (Entails.of_eq hp) $$ Hpay
  icases Hpay with ⟨H0, H1, H2⟩
  iapply Hk $$ [Ho] [Hp] H0 H1 H2
  · iexists _; iexact Ho
  · iexact Hp

end Cert.KernelIdeal.Talk
-- ==== Proof.KernelIdeal.Pieces.lean ====
/-
# What each piece of the body does

One statement for each definition of the program: from the memory, positions, tokens and credits that the piece needs
to those that it leaves, for every device and every chunk.
-/
module

public import proofs.«01_k».proof.Proof.KernelIdeal.Rules

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## The summand, and the slots that its rows are read into -/

/-- The device's block of the summand, as at launch. -/
def aPts (d : Dev nD) : sProp 𝕄 := (d : Thread nD τ).loc main_arg0 ↦{fullShare} aV m d
/-- The staged weights. -/
def gPts (d : Dev nD) : sProp 𝕄 := (d : Thread nD τ).loc cc0_stg0_0 ↦{fullShare} gV m d

/-- Some rows of the summand can be taken out and put back. -/
theorem aPts_take (d : Dev nD) (r : Rect S1x8192x4096) (hr : ∀ a, r.stride a = 1) :
    aPts m d ⊢ iprop(owns (d : Thread nD τ) (aM.slice r hr) fullShare ((aM.slice r hr).view.read (Elt F) (aV m d))
      ∗ (owns (d : Thread nD τ) (aM.slice r hr) fullShare ((aM.slice r hr).view.read (Elt F) (aV m d)) -∗ aPts m d)) := by
  have e : (owns (d : Thread nD τ) (aM.slice r hr) fullShare ((aM.slice r hr).view.read (Elt F) (aV m d)) : sProp 𝕄)
      = ((d : Thread nD τ).loc main_arg0 ↦[(aM.view.slice r).set]{fullShare} aV m d) :=
    owns_slice_read (d : Thread nD τ) aM fullShare r hr (aV m d)
  rw [e]
  unfold aPts
  iintro H
  ihave H := (show ((d : Thread nD τ).loc main_arg0 ↦{fullShare} aV m d : sProp 𝕄)
    ⊢ iprop(((d : Thread nD τ).loc main_arg0 ↦[(aM.view.slice r).set]{fullShare} aV m d)
      ∗ (d : Thread nD τ).loc main_arg0 ↦[Finset.univ \ (aM.view.slice r).set]{fullShare} aV m d)
    from (pointsTo_split_subset (Finset.subset_univ _)).1) $$ H
  icases H with ⟨H1, H2⟩
  isplitl [H1]; · iexact H1
  iintro H1
  iapply (show iprop(((d : Thread nD τ).loc main_arg0 ↦[(aM.view.slice r).set]{fullShare} aV m d)
      ∗ (d : Thread nD τ).loc main_arg0 ↦[Finset.univ \ (aM.view.slice r).set]{fullShare} aV m d)
    ⊢ ((d : Thread nD τ).loc main_arg0 ↦{fullShare} aV m d : sProp 𝕄)
    from (pointsTo_split_subset (Finset.subset_univ _)).2)
  isplitl [H1]; · iexact H1
  iexact H2

theorem take_sent (d : Dev nD) (c : Fin 8) : aPts m d ⊢ iprop(owns (d : Thread nD τ) (aSent d c) fullShare (sentV m d c)
    ∗ (owns (d : Thread nD τ) (aSent d c) fullShare (sentV m d c) -∗ aPts m d)) := aPts_take m d _ _
theorem take_kept (d : Dev nD) (c : Fin 8) : aPts m d ⊢ iprop(owns (d : Thread nD τ) (aKept d c) fullShare (keptV m d c)
    ∗ (owns (d : Thread nD τ) (aKept d c) fullShare (keptV m d c) -∗ aPts m d)) := aPts_take m d _ _

theorem ldSrc_sent (d : Dev nD) (c : Fin 8) : ldSrc d (slot c) (c.val / 2) = aSent d c := by
  unfold ldSrc
  rw [if_pos (by omega), show ldC (slot c) (c.val / 2) = c from by revert c; decide]
theorem ldSrc_kept (d : Dev nD) (c : Fin 8) : ldSrc d (slot c) (4 + c.val / 2) = aKept d c := by
  unfold ldSrc
  rw [if_neg (by omega), show ldC (slot c) (4 + c.val / 2) = c from by revert c; decide]

/-- Slot `s` before its round `r`. -/
def slotLd (d : Dev nD) (s : Fin 2) (r : ℕ) : sProp 𝕄 :=
  iprop(pos d (.ld s) r ∗ rch d (.ld s) r ∗ some_ d (afAt s))

theorem pay_sent (d : Dev nD) (c : Fin 8) : pay m d (c.val / 2) 0 (.ld (slot c))
    = iprop(owns (d : Thread nD τ) (afAt (slot c)) fullShare (sentV m d c) ∗ owns (d : Thread nD τ) (aSent d c) fullShare (sentV m d c)) := by
  show iprop(_ ∗ aPart m d (ldSrc d (slot c) (c.val / 2))) = _
  rw [ldSrc_sent]; rfl
theorem pay_kept (d : Dev nD) (c : Fin 8) : pay m d (4 + c.val / 2) 0 (.ld (slot c))
    = iprop(owns (d : Thread nD τ) (afAt (slot c)) fullShare (keptV m d c) ∗ owns (d : Thread nD τ) (aKept d c) fullShare (keptV m d c)) := by
  show iprop(_ ∗ aPart m d (ldSrc d (slot c) (4 + c.val / 2))) = _
  rw [ldSrc_kept]; rfl

/-- Starting to read rows into a slot. -/
theorem run_ldStart (d : Dev nD) (s : Fin 2) (r : ℕ) (hr : r < 8) (src : Memref sig .tc .hbm S1x128x4096 .f32) (V : Vec F S1x128x4096 .f32)
    (hpay : pay m d r 0 (.ld s) = iprop(owns (d : Thread nD τ) (afAt s) fullShare V ∗ owns (d : Thread nD τ) src fullShare V))
    (Q : PUnit → sProp 𝕄) :
    iprop(recs m ∗ owns (d : Thread nD τ) src fullShare V ∗ some_ d (afAt s) ∗ tok d (.ld s) r 0 ∗ rch d (.ld s) r)
      ⊢ iprop((crd d (.ld s) -∗ Q ⟨⟩) -∗ run d (ldStart src s) Q) := by
  iintro ⟨#Hrec, Hs, Hd, Ht, Hr⟩ Hk
  unfold ldStart
  iapply (run_copy m d (.inr (.inr (s, 0))) r hr (sem_ld s) (sqz src) (sqz (afAt s)) _ _ _ rfl fullShare (flat V)
    (by rw [owns_sqz, owns_sqz]; exact Entails.of_eq hpay.symm) Q) $$ [Hs Hd Ht Hr]
  · isplitr; · iexact Hrec
    isplitl [Hs]; · rw [owns_sqz]; iexact Hs
    isplitl [Hd]; · iapply (some_sqz d (afAt s)); iexact Hd
    isplitl [Ht]; · iexact Ht
    iexact Hr
  iexact Hk

/-- Waiting for them. -/
theorem run_ldWait (d : Dev nD) (s : Fin 2) (r n : ℕ) (hr : r < 8) (hl : ∀ e ∈ dues.drop n, 0 < lvl e.2)
    (src : Memref sig .tc .hbm S1x128x4096 .f32) (V : Vec F S1x128x4096 .f32)
    (hpay : pay m d r 0 (.ld s) = iprop(owns (d : Thread nD τ) (afAt s) fullShare V ∗ owns (d : Thread nD τ) src fullShare V))
    (Q : PUnit → sProp 𝕄) :
    iprop(recs m ∗ crd d (.ld s) ∗ owing d n ∗ pos d (.ld s) r)
      ⊢ iprop((owing d n -∗ pos d (.ld s) (r + 1) -∗ rch d (.ld s) (r + 1) -∗ owns (d : Thread nD τ) (afAt s) fullShare V
          -∗ owns (d : Thread nD τ) src fullShare V -∗ Q ⟨⟩) -∗ run d (ldWait src s) Q) := by
  iintro ⟨#Hrec, Hc, Ho, Hp⟩ Hk
  unfold ldWait
  iapply (run_wait m d (.inr (.inr (s, 0))) r n hr hl (sem_ld s) (sqz src) (sqz (afAt s)) _ _ rfl Q) $$ [Hc Ho Hp]
  · isplitr; · iexact Hrec
    isplitl [Hc]; · iexact Hc
    isplitl [Ho]; · iexact Ho
    iexact Hp
  iintro Ho Hp Hr Hpay
  ihave Hpay := (Entails.of_eq hpay) $$ Hpay
  icases Hpay with ⟨H1, H2⟩
  iapply Hk $$ Ho Hp Hr H1 H2

theorem dues_pos (n : ℕ) : ∀ e ∈ dues.drop n, 0 < lvl e.2 := fun e he =>
  (show ∀ e ∈ dues, 0 < lvl e.2 by decide) e (List.mem_of_mem_drop he)

/-! ## First phase -/

/-- What sending chunk `c` takes. -/
def sendOwn (d : Dev nD) (c : Fin 8) : sProp 𝕄 :=
  iprop(tok d (.ld (slot c)) (c.val / 2) 0 ∗ tok d (.xs c) 0 0 ∗ tok (xp d) (.xr c) 0 0 ∗ some_ d (xsAt c))
def sendRes (d : Dev nD) (c : Fin 8) : sProp 𝕄 := iprop(sendOwn d c ∗ some_ (xp d) (xrAt c))

theorem run_sendRows (d : Dev nD) (c : Fin 8) (n : ℕ) (hn : dues[n]? = some (0, .xr c)) {s : Fin 2} (hs : slot c = s) {r : ℕ} (hr : c.val / 2 = r)
    (Q : PUnit → sProp 𝕄) :
    iprop(recs m ∗ aPts m d ∗ slotLd d s r ∗ sendRes d c ∗ owing d n)
      ⊢ iprop((aPts m d -∗ slotLd d s (r + 1) -∗ crd d (.xs c) -∗ owing d (n + 1) -∗ Q ⟨⟩) -∗ run d (sendRows d c) Q) := by
  subst hs; subst hr
  unfold sendRows slotLd sendRes sendOwn
  simp only [run_bind]
  iintro ⟨#Hrec, Ha, ⟨Hp, #Hr, Haf⟩, ⟨⟨Ht, Hts, Htr, Hxs⟩, Hxr⟩, Ho⟩ Hk
  ihave Ha := (take_sent m d c) $$ Ha
  icases Ha with ⟨Ha, Hback⟩
  iapply (run_ldStart m d (slot c) (c.val / 2) (by omega) (aSent d c) (sentV m d c) (pay_sent m d c)) $$ [Ha Haf Ht]
  · isplitr; · iexact Hrec
    isplitl [Ha]; · iexact Ha
    isplitl [Haf]; · iexact Haf
    isplitl [Ht]; · iexact Ht
    iexact Hr
  iintro Hc
  iapply (run_ldWait m d (slot c) (c.val / 2) n (by omega) (dues_pos n) (aSent d c) (sentV m d c) (pay_sent m d c)) $$ [Hc Ho Hp]
  · isplitr; · iexact Hrec
    isplitl [Hc]; · iexact Hc
    isplitl [Ho]; · iexact Ho
    iexact Hp
  iintro Ho Hp #Hr' Haf Ha
  ihave Ha := Hback $$ Ha
  unfold afLoad
  iapply (run_load d afM (rect2 (slot c)) (fun _ => rfl) _ fullShare (sentV m d c)) $$ Haf
  iintro Haf
  unfold some_
  icases Hxs with ⟨%X, Hxs⟩
  unfold xsLoad
  iapply (run_load d xsM (rect8 c) (fun _ => rfl) _ fullShare X) $$ Hxs
  iintro Hxs
  unfold xsStore
  iapply (run_store d xsM (rect8 c) (fun _ => rfl) (payX (sentV m d c))) $$ [Hxs]
  · iapply (some_intro d (xsAt c) X); iexact Hxs
  iintro Hxs
  unfold xSend
  iapply (run_send m d 0 (devX_eq d c) (.inl (c, 0)) (.inl (c, 1)) n hn Nat.one_pos Nat.one_pos (sem_xs c) (sem_xr c)
    (sqz (xsAt c)) (sqz (xrAt c)) rfl _ _ _ rfl rfl fullShare (flat (xV m d c))
    (by rw [owns_sqz]; exact BI.BIBase.Entails.rfl)
    (by rw [owns_sqz]
        show _ ⊢ owns (xp d : Thread nD τ) (xrAt c) fullShare (xV m (xp (xp d)) c)
        rw [xp_xp]; exact BI.BIBase.Entails.rfl)) $$ [Hxs Hxr Ho Hts Htr]
  · isplitr; · iexact Hrec
    isplitl [Hxs]; · rw [owns_sqz]; iexact Hxs
    isplitl [Hxr]; · iapply (some_sqz (xp d) (xrAt c)); unfold some_; iexact Hxr
    isplitl [Ho]; · iexact Ho
    isplitl [Hts]; · iexact Hts
    iexact Htr
  iintro Hc Ho
  iapply Hk $$ Ha [Hp Haf] Hc Ho
  isplitl [Hp]; · iexact Hp
  isplitr; · iexact Hr'
  iexists sentV m d c; iexact Haf

/-! ## Second phase -/

/-- The values that chunk `c` is computed from. -/
def valsV (d : Dev nD) (c : Fin 8) : Vec F S1x128x4096 .f32 × Vec F S1x128x4096 .bf16 × Vec F S4096 .f32 :=
  (keptV m d c, xV m (xp d) c, gV m d)

def readRes (d : Dev nD) (c : Fin 8) : sProp 𝕄 :=
  iprop(tok d (.ld (slot c)) (4 + c.val / 2) 0 ∗ pos d (.xr c) 0 ∗ crd d (.xr c))
def readDone (d : Dev nD) (c : Fin 8) : sProp 𝕄 := iprop(pos d (.xr c) 1 ∗ some_ d (xrAt c))

theorem run_gLoad (d : Dev nD) (Q : Vec F S4096 .f32 → sProp 𝕄) :
    gPts m d ⊢ iprop((gPts m d -∗ Q (gV m d)) -∗ run d gLoad Q) := by
  unfold gPts gLoad run
  iintro H Hk
  iapply (wp_load 𝒱₀ (d : Thread nD τ) none Set.univ (m := gM) (r := (Rect.unit (s := S4096) ![0] S4096.size inb_S4096_S4096_0).toLoadRect)
    (k := Prog.ret) (S := Finset.univ) (Finset.subset_univ _)) $$ H
  iintro H
  iapply (run_ret d)
  rw [show gM.view.readAt (Elt F) (Rect.unit (s := S4096) ![0] S4096.size inb_S4096_S4096_0).toLoadRect (gV m d) = gV m d from
    Memref.readAt_unit_zero (Elt F) cc0_stg0_0 (funext fun a => by fin_cases a; rfl) _ _]
  iapply Hk
  iexact H

theorem run_readRows (d : Dev nD) (c : Fin 8) (n : ℕ) (hl : ∀ e ∈ dues.drop n, 2 < lvl e.2) {s : Fin 2} (hs : slot c = s) {r : ℕ} (hr : 4 + c.val / 2 = r)
    (Q : _ → sProp 𝕄) :
    iprop(recs m ∗ aPts m d ∗ gPts m d ∗ slotLd d s r ∗ readRes d c ∗ owing d n)
      ⊢ iprop((aPts m d -∗ gPts m d -∗ slotLd d s (r + 1) -∗ readDone d c -∗ owing d n -∗ Q (valsV m d c)) -∗ run d (readRows d c) Q) := by
  subst hs; subst hr
  unfold readRows slotLd readRes
  simp only [run_bind]
  iintro ⟨#Hrec, Ha, Hg, ⟨Hp, #Hr, Haf⟩, ⟨Ht, Hpx, Hcx⟩, Ho⟩ Hk
  ihave Ha := (take_kept m d c) $$ Ha
  icases Ha with ⟨Ha, Hback⟩
  iapply (run_ldStart m d (slot c) (4 + c.val / 2) (by omega) (aKept d c) (keptV m d c) (pay_kept m d c)) $$ [Ha Haf Ht]
  · isplitr; · iexact Hrec
    isplitl [Ha]; · iexact Ha
    isplitl [Haf]; · iexact Haf
    isplitl [Ht]; · iexact Ht
    iexact Hr
  iintro Hc
  unfold xrWait
  iapply (run_wait m d (.inl (c, 1)) 0 n Nat.one_pos hl (sem_xr c) (sqz (xsAt c)) (sqz (xrAt c)) _ _ rfl) $$ [Hcx Ho Hpx]
  · isplitr; · iexact Hrec
    isplitl [Hcx]; · iexact Hcx
    isplitl [Ho]; · iexact Ho
    iexact Hpx
  iintro Ho Hpx - Hxr
  iapply (run_ldWait m d (slot c) (4 + c.val / 2) n (by omega) (dues_pos n) (aKept d c) (keptV m d c) (pay_kept m d c)) $$ [Hc Ho Hp]
  · isplitr; · iexact Hrec
    isplitl [Hc]; · iexact Hc
    isplitl [Ho]; · iexact Ho
    iexact Hp
  iintro Ho Hp #Hr' Haf Ha
  ihave Ha := Hback $$ Ha
  unfold afLoad
  iapply (run_load d afM (rect2 (slot c)) (fun _ => rfl) _ fullShare (keptV m d c)) $$ Haf
  iintro Haf
  unfold xrLoad
  iapply (run_load d xrM (rect8 c) (fun _ => rfl) _ fullShare (xV m (xp d) c)) $$ [Hxr]
  · iapply (Entails.of_eq (show pay m d 0 0 (.xr c) = owns (d : Thread nD τ) (xrAt c) fullShare (xV m (xp d) c) from rfl)); iexact Hxr
  iintro Hxr
  iapply (run_gLoad m d) $$ Hg
  iintro Hg
  iapply (show Q (valsV m d c) ⊢ run d (pure (valsV m d c)) Q from run_ret d _ _)
  iapply Hk $$ Ha Hg [Hp Haf] [Hpx Hxr] Ho
  · isplitl [Hp]; · iexact Hp
    isplitr; · iexact Hr'
    iapply (some_intro d (afAt (slot c))); iexact Haf
  · unfold readDone
    isplitl [Hpx]; · iexact Hpx
    iapply (some_intro d (xrAt c)); iexact Hxr

/-! ## The copies out -/

/-- A slot of normalised rows before its round `r`. -/
def slotOb (d : Dev nD) (s : Fin 2) (r : ℕ) : sProp 𝕄 :=
  iprop(pos d (.od s) r ∗ rch d (.od s) r ∗ some_ d (obAt s))
/-- What emitting chunk `c` takes, -/
def emitOwn (d : Dev nD) (c : Fin 8) : sProp 𝕄 :=
  iprop(tok d (.od (slot c)) (c.val / 2) 0 ∗ tok d (.ys c) 0 0 ∗ tok (yp d) (.yr c) 0 0 ∗ tok d (.zs c) 0 0 ∗ tok (zp d) (.zr c) 0 0
    ∗ some_ d (oC (qd d) c) ∗ pos d (.ys c) 0 ∗ pos d (.zs c) 0)
def emitRes (d : Dev nD) (c : Fin 8) : sProp 𝕄 := iprop(emitOwn d c ∗ some_ (yp d) (oC (qd d) c) ∗ some_ (zp d) (oC (qd d) c))
/-- what is left while its copies are under way, -/
def flying (d : Dev nD) (s : Fin 2) (r : ℕ) (c : Fin 8) : sProp 𝕄 :=
  iprop(pos d (.od s) r ∗ crd d (.od s) ∗ crd d (.ys c) ∗ crd d (.zs c) ∗ pos d (.ys c) 0 ∗ pos d (.zs c) 0)
/-- and when they have left. -/
def drained (d : Dev nD) (c : Fin 8) : sProp 𝕄 :=
  iprop(pos d (.ys c) 1 ∗ pos d (.zs c) 1 ∗ owns (d : Thread nD τ) (oC (qd d) c) fullShare (rowV m d (qd d) c))

theorem ldC_slot (c : Fin 8) : ldC (slot c) (c.val / 2) = c := by revert c; decide

theorem run_emitRows (d : Dev nD) (c : Fin 8) (n : ℕ) (hn₁ : dues[n]? = some (1, .yr c)) (hn₂ : dues[n + 1]? = some (2, .zr c))
    {s : Fin 2} (hs : slot c = s) {r : ℕ} (hr : c.val / 2 = r) (Q : PUnit → sProp 𝕄) :
    iprop(recs m ∗ slotOb d s r ∗ emitRes d c ∗ owing d n)
      ⊢ iprop((flying d s r c -∗ owing d (n + 2) -∗ Q ⟨⟩) -∗ run d (emitRows d c (valsV m d c)) Q) := by
  subst hs; subst hr
  unfold emitRows slotOb emitRes emitOwn
  simp only [run_bind]
  iintro ⟨#Hrec, ⟨Hp, Hr, Hob⟩, ⟨⟨Ht, Htys, Htyr, Htzs, Htzr, Hown, Hpy, Hpz⟩, Hyo, Hzo⟩, Ho⟩ Hk
  ihave Hob := (show some_ d (obAt (slot c)) ⊢ iprop(∃ X, owns (d : Thread nD τ) (obAt (slot c)) fullShare X : sProp 𝕄) from BI.BIBase.Entails.rfl) $$ Hob
  icases Hob with ⟨%X, Hob⟩
  unfold obLoad
  iapply (run_load d obM (rect2 (slot c)) (fun _ => rfl) _ fullShare X) $$ Hob
  iintro Hob
  unfold obStore
  iapply (run_store d obM (rect2 (slot c)) (fun _ => rfl) (resV m d c)) $$ [Hob]
  · iapply (some_intro d (obAt (slot c)) X); iexact Hob
  iintro Hob
  ihave Hob := (owns_split d (obAt (slot c)) (resV m d c) (PosShare.mem_left_op_right fullShare)) $$ [Hob]
  · iexact Hob
  icases Hob with ⟨H1, Hob⟩
  ihave Hob := (owns_split d (obAt (slot c)) (resV m d c) (PosShare.mem_left_op_right fullShare.right)) $$ Hob
  icases Hob with ⟨H2, H3⟩
  unfold oCopy
  iapply (run_copy m d (.inr (.inr (slot c, 1))) (c.val / 2) (show c.val / 2 < 4 by omega) (sem_od (slot c)) (sqz (obAt (slot c))) (oOwn d c) _ _ _ rfl q1
    (flat (resV m d c))
    (by
      rw [owns_sqz, oOwn_eq]
      show _ ⊢ iprop(owns (d : Thread nD τ) (oC (qd d) (ldC (slot c) (c.val / 2))) fullShare (rowV m d (qd d) (ldC (slot c) (c.val / 2)))
        ∗ owns (d : Thread nD τ) (obAt (slot c)) q1 (resV m d (ldC (slot c) (c.val / 2))))
      rw [ldC_slot, rowV_qd])) $$ [H1 Hown Ht Hr]
  · isplitr; · iexact Hrec
    isplitl [H1]; · rw [owns_sqz]; iexact H1
    isplitl [Hown]; · rw [oOwn_eq]; iexact Hown
    isplitl [Ht]; · iexact Ht
    iexact Hr
  iintro Hc
  unfold oSend
  iapply (run_send m d 1 (devY_eq d c) (.inl (c, 2)) (.inl (c, 3)) n hn₁ Nat.one_pos Nat.one_pos (sem_ys c) (sem_yr c)
    (sqz (obAt (slot c))) (oOwn d c) rfl _ _ _ rfl rfl q2 (flat (resV m d c))
    (by rw [owns_sqz]; exact BI.BIBase.Entails.rfl)
    (by
      rw [oOwn_eq]
      show _ ⊢ owns (yp d : Thread nD τ) (oC (qy (yp d)) c) fullShare (rowV m (yp d) (qy (yp d)) c)
      rw [qy_yp, rowV_yp, rowV_qd]; exact BI.BIBase.Entails.rfl)) $$ [H2 Hyo Ho Htys Htyr]
  · isplitr; · iexact Hrec
    isplitl [H2]; · rw [owns_sqz]; iexact H2
    isplitl [Hyo]; · rw [oOwn_eq]; iexact Hyo
    isplitl [Ho]; · iexact Ho
    isplitl [Htys]; · iexact Htys
    iexact Htyr
  iintro Hcy Ho
  iapply (run_send m d 2 (devZ_eq d c) (.inl (c, 4)) (.inl (c, 5)) (n + 1) hn₂ Nat.one_pos Nat.one_pos (sem_zs c) (sem_zr c)
    (sqz (obAt (slot c))) (oOwn d c) rfl _ _ _ rfl rfl q3 (flat (resV m d c))
    (by rw [owns_sqz]; exact BI.BIBase.Entails.rfl)
    (by
      rw [oOwn_eq]
      show _ ⊢ owns (zp d : Thread nD τ) (oC (qz (zp d)) c) fullShare (rowV m (zp d) (qz (zp d)) c)
      rw [qz_zp, rowV_zp, rowV_qd]; exact BI.BIBase.Entails.rfl)) $$ [H3 Hzo Ho Htzs Htzr]
  · isplitr; · iexact Hrec
    isplitl [H3]; · rw [owns_sqz]; iexact H3
    isplitl [Hzo]; · rw [oOwn_eq]; iexact Hzo
    isplitl [Ho]; · iexact Ho
    isplitl [Htzs]; · iexact Htzs
    iexact Htzr
  iintro Hcz Ho
  iapply Hk $$ [Hp Hc Hcy Hcz Hpy Hpz] Ho
  unfold flying
  isplitl [Hp]; · iexact Hp
  isplitl [Hc]; · iexact Hc
  isplitl [Hcy]; · iexact Hcy
  isplitl [Hcz]; · iexact Hcz
  isplitl [Hpy]; · iexact Hpy
  iexact Hpz

theorem run_drain (d : Dev nD) (c : Fin 8) (n : ℕ) {s : Fin 2} (hs : slot c = s) {r : ℕ} (hr : c.val / 2 = r) (Q : PUnit → sProp 𝕄) :
    iprop(recs m ∗ flying d s r c ∗ owing d n)
      ⊢ iprop((slotOb d s (r + 1) -∗ drained m d c -∗ owing d n -∗ Q ⟨⟩) -∗ run d (drain d c) Q) := by
  subst hs; subst hr
  unfold drain flying
  simp only [run_bind]
  iintro ⟨#Hrec, ⟨Hp, Hc, Hcy, Hcz, Hpy, Hpz⟩, Ho⟩ Hk
  unfold odWait
  iapply (run_wait m d (.inr (.inr (slot c, 1))) (c.val / 2) n (show c.val / 2 < 4 by omega) (dues_pos n) (sem_od (slot c)) (sqz (obAt (slot c))) (oOwn d c) _ _ rfl)
    $$ [Hc Ho Hp]
  · isplitr; · iexact Hrec
    isplitl [Hc]; · iexact Hc
    isplitl [Ho]; · iexact Ho
    iexact Hp
  iintro Ho Hp Hr Hpay
  ihave Hpay := (show pay m d (c.val / 2) 0 (.od (slot c)) ⊢ iprop(owns (d : Thread nD τ) (oC (qd d) c) fullShare (rowV m d (qd d) c)
        ∗ owns (d : Thread nD τ) (obAt (slot c)) q1 (resV m d c)) from by
      show iprop(owns (d : Thread nD τ) (oC (qd d) (ldC (slot c) (c.val / 2))) fullShare (rowV m d (qd d) (ldC (slot c) (c.val / 2)))
        ∗ owns (d : Thread nD τ) (obAt (slot c)) q1 (resV m d (ldC (slot c) (c.val / 2)))) ⊢ _
      rw [ldC_slot]) $$ Hpay
  icases Hpay with ⟨Hown, H1⟩
  unfold osWait
  iapply (run_wait m d (.inl (c, 2)) 0 n Nat.one_pos (dues_pos n) (sem_ys c) (oOwn d c) (sqz (obAt (slot c))) _ _ rfl) $$ [Hcy Ho Hpy]
  · isplitr; · iexact Hrec
    isplitl [Hcy]; · iexact Hcy
    isplitl [Ho]; · iexact Ho
    iexact Hpy
  iintro Ho Hpy - H2
  iapply (run_wait m d (.inl (c, 4)) 0 n Nat.one_pos (dues_pos n) (sem_zs c) (oOwn d c) (sqz (obAt (slot c))) _ _ rfl) $$ [Hcz Ho Hpz]
  · isplitr; · iexact Hrec
    isplitl [Hcz]; · iexact Hcz
    isplitl [Ho]; · iexact Ho
    iexact Hpz
  iintro Ho Hpz - H3
  iapply Hk $$ [Hp Hr H1 H2 H3] [Hpy Hpz Hown] Ho
  · unfold slotOb
    isplitl [Hp]; · iexact Hp
    isplitl [Hr]; · iexact Hr
    iapply (some_intro d (obAt (slot c)) (resV m d c))
    iapply (owns_join d (obAt (slot c)) (resV m d c) (PosShare.mem_left_op_right fullShare))
    isplitl [H1]; · iexact H1
    iapply (owns_join d (obAt (slot c)) (resV m d c) (PosShare.mem_left_op_right fullShare.right))
    isplitl [H2]
    · iapply (Entails.of_eq (show pay m d 0 0 (.ys c) = owns (d : Thread nD τ) (obAt (slot c)) q2 (resV m d c) from rfl)); iexact H2
    · iapply (Entails.of_eq (show pay m d 0 0 (.zs c) = owns (d : Thread nD τ) (obAt (slot c)) q3 (resV m d c) from rfl)); iexact H3
  · unfold drained
    isplitl [Hpy]; · iexact Hpy
    isplitl [Hpz]; · iexact Hpz
    iexact Hown

end Cert.KernelIdeal.Talk
-- ==== Proof.KernelIdeal.Forwards.lean ====
/-
# The entry, the forwards and the last waits

The handshake at the barrier, the forwards of received chunks, and the waits at the end.
-/
module

public import proofs.«01_k».proof.Proof.KernelIdeal.Pieces

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## The entry -/

/-- What a device brings to the barrier: its tokens at its peers' barriers, the slots for the rows of its peer along the
first axis, and the chunks of its result that its other peers will write. -/
def enterRes (d : Dev nD) : sProp 𝕄 :=
  iprop(tok (xp d) .bar 0 0 ∗ tok (yp d) .bar 0 1 ∗ tok (zp d) .bar 0 2
    ∗ (bigSep Finset.univ fun c : Fin 8 => some_ d (xrAt c))
    ∗ (bigSep Finset.univ fun c : Fin 8 => some_ d (oC (qy d) c)) ∗ (bigSep Finset.univ fun i : Fin 4 => some_ d (oC (qf d) (ev i)))
    ∗ (bigSep Finset.univ fun c : Fin 8 => some_ d (oC (qz d) c)) ∗ (bigSep Finset.univ fun i : Fin 4 => some_ d (oC (qf d) (od i)))
    ∗ cred (tallyAt (cell d .bar) () 3) ∗ pos d .bar 0)

theorem payBar_x (d : Dev nD) : (payBar (xp d) 0 : sProp 𝕄) = bigSep Finset.univ fun c : Fin 8 => some_ d (xrAt c) := by
  show (bigSep Finset.univ fun c : Fin 8 => some_ (xp (xp d)) (xrAt c)) = _
  rw [xp_xp]
theorem payBar_y (d : Dev nD) : (payBar (yp d) 1 : sProp 𝕄)
    = iprop((bigSep Finset.univ fun c : Fin 8 => some_ d (oC (qy d) c)) ∗ (bigSep Finset.univ fun i : Fin 4 => some_ d (oC (qf d) (ev i)))) := by
  show iprop((bigSep Finset.univ fun c : Fin 8 => some_ (yp (yp d)) (oC (qd (yp d)) c))
      ∗ bigSep Finset.univ fun i : Fin 4 => some_ (yp (yp d)) (oC (qz (yp d)) (ev i))) = _
  rw [yp_yp, qz_yp]; rfl
theorem payBar_z (d : Dev nD) : (payBar (zp d) 2 : sProp 𝕄)
    = iprop((bigSep Finset.univ fun c : Fin 8 => some_ d (oC (qz d) c)) ∗ (bigSep Finset.univ fun i : Fin 4 => some_ d (oC (qf d) (od i)))) := by
  show iprop((bigSep Finset.univ fun c : Fin 8 => some_ (zp (zp d)) (oC (qd (zp d)) c))
      ∗ bigSep Finset.univ fun i : Fin 4 => some_ (zp (zp d)) (oC (qy (zp d)) (od i))) = _
  rw [zp_zp, qy_zp]; rfl

theorem run_enter (d : Dev nD) (Q : PUnit → sProp 𝕄) :
    iprop(recs m ∗ enterRes d ∗ owing d 0)
      ⊢ iprop((owing d 3 -∗ pos d .bar 1 -∗ payBar d 0 -∗ payBar d 1 -∗ payBar d 2 -∗ Q ⟨⟩) -∗ run d (enter d) Q) := by
  unfold enter enterRes
  simp only [run_bind]
  iintro ⟨#Hrec, ⟨Hx, Hy, Hz, Hxr, Hoy, Hoye, Hoz, Hozo, Hc, Hp⟩, Ho⟩ Hk
  iapply (run_signal m d 0 (dev1_eq d) 0 rfl) $$ [Hx Hxr Ho]
  · isplitr; · iexact Hrec
    isplitl [Ho]; · iexact Ho
    isplitl [Hx]; · iexact Hx
    iapply (Entails.of_eq (payBar_x d).symm); iexact Hxr
  iintro Ho
  iapply (run_signal m d 1 (dev2_eq d) 1 rfl) $$ [Hy Hoy Hoye Ho]
  · isplitr; · iexact Hrec
    isplitl [Ho]; · iexact Ho
    isplitl [Hy]; · iexact Hy
    iapply (Entails.of_eq (payBar_y d).symm)
    isplitl [Hoy]; · iexact Hoy
    iexact Hoye
  iintro Ho
  iapply (run_signal m d 2 (dev3_eq d) 2 rfl) $$ [Hz Hoz Hozo Ho]
  · isplitr; · iexact Hrec
    isplitl [Ho]; · iexact Ho
    isplitl [Hz]; · iexact Hz
    iapply (Entails.of_eq (payBar_z d).symm)
    isplitl [Hoz]; · iexact Hoz
    iexact Hozo
  iintro Ho
  iapply (run_barrier m d 3 (by decide)) $$ [Hc Hp Ho]
  · isplitr; · iexact Hrec
    isplitl [Hc]; · iexact Hc
    isplitl [Ho]; · iexact Ho
    iexact Hp
  iexact Hk

/-! ## The forwards -/

/-- What forwarding an even chunk takes, -/
def fwdYOwn (d : Dev nD) (i : Fin 4) : sProp 𝕄 :=
  iprop(pos d (.zr (ev i)) 0 ∗ crd d (.zr (ev i)) ∗ tok d (.fys i) 0 0 ∗ tok (yp d) (.fyr i) 0 0)
def fwdYRes (d : Dev nD) (i : Fin 4) : sProp 𝕄 := iprop(fwdYOwn d i ∗ some_ (yp d) (oC (qz d) (ev i)))
/-- and what is left; -/
def fwdYDone (d : Dev nD) (i : Fin 4) : sProp 𝕄 := iprop(pos d (.zr (ev i)) 1 ∗ crd d (.fys i))
/-- the same of an odd one. -/
def fwdZOwn (d : Dev nD) (i : Fin 4) : sProp 𝕄 :=
  iprop(pos d (.yr (od i)) 0 ∗ crd d (.yr (od i)) ∗ tok d (.fzs i) 0 0 ∗ tok (zp d) (.fzr i) 0 0)
def fwdZRes (d : Dev nD) (i : Fin 4) : sProp 𝕄 := iprop(fwdZOwn d i ∗ some_ (zp d) (oC (qy d) (od i)))
def fwdZDone (d : Dev nD) (i : Fin 4) : sProp 𝕄 := iprop(pos d (.yr (od i)) 1 ∗ crd d (.fzs i))

theorem run_fwdY (d : Dev nD) (i : Fin 4) (n : ℕ) (hn : dues[n]? = some (1, .fyr i)) (hl : ∀ e ∈ dues.drop n, lvl (.zr (ev i)) < lvl e.2)
    (Q : PUnit → sProp 𝕄) :
    iprop(recs m ∗ fwdYRes d i ∗ owing d n) ⊢ iprop((fwdYDone d i -∗ owing d (n + 1) -∗ Q ⟨⟩) -∗ run d (fwdY d i) Q) := by
  unfold fwdY fwdYRes fwdYOwn
  simp only [run_bind]
  iintro ⟨#Hrec, ⟨⟨Hp, Hc, Hts, Htr⟩, Hpo⟩, Ho⟩ Hk
  unfold orWait
  iapply (run_wait m d (.inl (ev i, 5)) 0 n Nat.one_pos hl (sem_zr (ev i)) (sqz (obAt 0)) (oOwn d (ev i)) _ _ rfl) $$ [Hc Ho Hp]
  · isplitr; · iexact Hrec
    isplitl [Hc]; · iexact Hc
    isplitl [Ho]; · iexact Ho
    iexact Hp
  iintro Ho Hp - Hpay
  ihave Hpay := (Entails.of_eq (show pay m d 0 0 (.zr (ev i)) = owns (d : Thread nD τ) (oC (qz d) (ev i)) fullShare (rowV m d (qz d) (ev i)) from rfl)) $$ Hpay
  unfold fwd
  iapply (run_send m d 1 (devFY_eq d i) (.inr (.inl (i, 0))) (.inr (.inl (i, 1))) n hn Nat.one_pos Nat.one_pos (sem_fys i) (sem_fyr i)
    (oFwY d i) (oFwY d i) rfl _ _ _ rfl rfl fullShare (rowV m d (qz d) (ev i))
    (by rw [oFwY_eq]; exact BI.BIBase.Entails.rfl)
    (by
      rw [oFwY_eq]
      show _ ⊢ owns (yp d : Thread nD τ) (oC (qf (yp d)) (ev i)) fullShare (rowV m (yp d) (qf (yp d)) (ev i))
      rw [qf_yp, rowV_yp]; exact BI.BIBase.Entails.rfl)) $$ [Hpay Hpo Ho Hts Htr]
  · isplitr; · iexact Hrec
    isplitl [Hpay]; · rw [oFwY_eq]; iexact Hpay
    isplitl [Hpo]; · rw [oFwY_eq]; iexact Hpo
    isplitl [Ho]; · iexact Ho
    isplitl [Hts]; · iexact Hts
    iexact Htr
  iintro Hc Ho
  iapply Hk $$ [Hp Hc] Ho
  unfold fwdYDone
  isplitl [Hp]; · iexact Hp
  iexact Hc

theorem run_fwdZ (d : Dev nD) (i : Fin 4) (n : ℕ) (hn : dues[n]? = some (2, .fzr i)) (hl : ∀ e ∈ dues.drop n, lvl (.yr (od i)) < lvl e.2)
    (Q : PUnit → sProp 𝕄) :
    iprop(recs m ∗ fwdZRes d i ∗ owing d n) ⊢ iprop((fwdZDone d i -∗ owing d (n + 1) -∗ Q ⟨⟩) -∗ run d (fwdZ d i) Q) := by
  unfold fwdZ fwdZRes fwdZOwn
  simp only [run_bind]
  iintro ⟨#Hrec, ⟨⟨Hp, Hc, Hts, Htr⟩, Hpo⟩, Ho⟩ Hk
  unfold orWait
  iapply (run_wait m d (.inl (od i, 3)) 0 n Nat.one_pos hl (sem_yr (od i)) (sqz (obAt 0)) (oOwn d (od i)) _ _ rfl) $$ [Hc Ho Hp]
  · isplitr; · iexact Hrec
    isplitl [Hc]; · iexact Hc
    isplitl [Ho]; · iexact Ho
    iexact Hp
  iintro Ho Hp - Hpay
  ihave Hpay := (Entails.of_eq (show pay m d 0 0 (.yr (od i)) = owns (d : Thread nD τ) (oC (qy d) (od i)) fullShare (rowV m d (qy d) (od i)) from rfl)) $$ Hpay
  unfold fwd
  iapply (run_send m d 2 (devFZ_eq d i) (.inr (.inl (i, 2))) (.inr (.inl (i, 3))) n hn Nat.one_pos Nat.one_pos (sem_fzs i) (sem_fzr i)
    (oFwZ d i) (oFwZ d i) rfl _ _ _ rfl rfl fullShare (rowV m d (qy d) (od i))
    (by rw [oFwZ_eq]; exact BI.BIBase.Entails.rfl)
    (by
      rw [oFwZ_eq]
      show _ ⊢ owns (zp d : Thread nD τ) (oC (qf (zp d)) (od i)) fullShare (rowV m (zp d) (qf (zp d)) (od i))
      rw [qf_zp, rowV_zp]; exact BI.BIBase.Entails.rfl)) $$ [Hpay Hpo Ho Hts Htr]
  · isplitr; · iexact Hrec
    isplitl [Hpay]; · rw [oFwZ_eq]; iexact Hpay
    isplitl [Hpo]; · rw [oFwZ_eq]; iexact Hpo
    isplitl [Ho]; · iexact Ho
    isplitl [Hts]; · iexact Hts
    iexact Htr
  iintro Hc Ho
  iapply Hk $$ [Hp Hc] Ho
  unfold fwdZDone
  isplitl [Hp]; · iexact Hp
  iexact Hc

/-! ## The last waits -/

/-- A wait on a cell of one round once nothing is owed. -/
theorem run_wait_end (d : Dev nD) (k : SK) (hk : rounds (.inr k) = 1) {s : DmaSem sig} (hs : s = dsem k)
    {sp sp' : Space} {sh sh' : Shape} {e e' : EltTy} (src : Memref sig .tc sp' sh' e') (dst : Memref sig .tc sp sh e)
    (h1 : src.view.WordExact) (h2 : dst.view.WordExact) (ha : dst.view.dmaCredit = amt (.inr k)) (Q : PUnit → sProp 𝕄) :
    iprop(recs m ∗ (crd d (.inr k) ∗ pos d (.inr k) 0) ∗ owing d 35)
      ⊢ iprop((owing d 35 -∗ (pos d (.inr k) 1 ∗ pay m d 0 0 (.inr k)) -∗ Q ⟨⟩) -∗ run d (Prog.lift (.waitDma2 s src dst h1 h2)) Q) := by
  iintro ⟨#Hrec, ⟨Hc, Hp⟩, Ho⟩ Hk
  iapply (run_wait m d k 0 35 (by omega) (fun e he => absurd he (List.not_mem_nil)) hs src dst h1 h2 ha Q) $$ [Hc Ho Hp]
  · isplitr; · iexact Hrec
    isplitl [Hc]; · iexact Hc
    isplitl [Ho]; · iexact Ho
    iexact Hp
  iintro Ho Hp - Hpay
  iapply Hk $$ Ho [Hp Hpay]
  isplitl [Hp]; · iexact Hp
  iexact Hpay

/-- A cell to wait for, -/
abbrev due1 (d : Dev nD) (k : SK) : sProp 𝕄 := iprop(crd d (.inr k) ∗ pos d (.inr k) 0)
/-- and after the wait. -/
abbrev done1 (d : Dev nD) (k : SK) : sProp 𝕄 := iprop(pos d (.inr k) 1 ∗ pay m d 0 0 (.inr k))

theorem run_restWait (d : Dev nD) (i : Fin 4) (Q : PUnit → sProp 𝕄) :
    iprop(recs m ∗ (due1 d (.inl (ev i, 3)) ∗ due1 d (.inl (od i, 5))) ∗ owing d 35)
      ⊢ iprop((owing d 35 -∗ (done1 m d (.inl (ev i, 3)) ∗ done1 m d (.inl (od i, 5))) -∗ Q ⟨⟩) -∗ run d (restWait d i) Q) := by
  unfold restWait
  simp only [run_bind]
  iintro ⟨#Hrec, ⟨H1, H2⟩, Ho⟩ Hk
  unfold orWait
  iapply (run_wait_end m d (.inl (ev i, 3)) rfl (sem_yr (ev i)) (sqz (obAt 0)) (oOwn d (ev i)) _ _ rfl) $$ [H1 Ho]
  · isplitr; · iexact Hrec
    isplitl [H1]; · iexact H1
    iexact Ho
  iintro Ho H1
  iapply (run_wait_end m d (.inl (od i, 5)) rfl (sem_zr (od i)) (sqz (obAt 0)) (oOwn d (od i)) _ _ rfl) $$ [H2 Ho]
  · isplitr; · iexact Hrec
    isplitl [H2]; · iexact H2
    iexact Ho
  iintro Ho H2
  iapply Hk $$ Ho [H1 H2]
  isplitl [H1]; · iexact H1
  iexact H2

theorem run_xsWait (d : Dev nD) (c : Fin 8) (Q : PUnit → sProp 𝕄) :
    iprop(recs m ∗ due1 d (.inl (c, 0)) ∗ owing d 35)
      ⊢ iprop((owing d 35 -∗ done1 m d (.inl (c, 0)) -∗ Q ⟨⟩) -∗ run d (xsWait c) Q) := by
  unfold xsWait
  exact run_wait_end m d (.inl (c, 0)) rfl (sem_xs c) (sqz (xrAt c)) (sqz (xsAt c)) _ _ rfl Q

theorem run_fwdWait (d : Dev nD) (i : Fin 4) (Q : PUnit → sProp 𝕄) :
    iprop(recs m ∗ (due1 d (.inr (.inl (i, 0))) ∗ due1 d (.inr (.inl (i, 2))) ∗ due1 d (.inr (.inl (i, 1))) ∗ due1 d (.inr (.inl (i, 3)))) ∗ owing d 35)
      ⊢ iprop((owing d 35 -∗ (done1 m d (.inr (.inl (i, 0))) ∗ done1 m d (.inr (.inl (i, 2))) ∗ done1 m d (.inr (.inl (i, 1))) ∗ done1 m d (.inr (.inl (i, 3))))
          -∗ Q ⟨⟩) -∗ run d (fwdWait d i) Q) := by
  unfold fwdWait
  simp only [run_bind]
  iintro ⟨#Hrec, ⟨H1, H2, H3, H4⟩, Ho⟩ Hk
  unfold fwWait
  iapply (run_wait_end m d (.inr (.inl (i, 0))) rfl (sem_fys i) (oFwY d i) (oFwY d i) _ _ rfl) $$ [H1 Ho]
  · isplitr; · iexact Hrec
    isplitl [H1]; · iexact H1
    iexact Ho
  iintro Ho H1
  iapply (run_wait_end m d (.inr (.inl (i, 2))) rfl (sem_fzs i) (oFwZ d i) (oFwZ d i) _ _ rfl) $$ [H2 Ho]
  · isplitr; · iexact Hrec
    isplitl [H2]; · iexact H2
    iexact Ho
  iintro Ho H2
  iapply (run_wait_end m d (.inr (.inl (i, 1))) rfl (sem_fyr i) (oFwY d i) (oFwY d i) _ _ rfl) $$ [H3 Ho]
  · isplitr; · iexact Hrec
    isplitl [H3]; · iexact H3
    iexact Ho
  iintro Ho H3
  iapply (run_wait_end m d (.inr (.inl (i, 3))) rfl (sem_fzr i) (oFwZ d i) (oFwZ d i) _ _ rfl) $$ [H4 Ho]
  · isplitr; · iexact Hrec
    isplitl [H4]; · iexact H4
    iexact Ho
  iintro Ho H4
  iapply Hk $$ Ho [H1 H2 H3 H4]
  isplitl [H1]; · iexact H1
  isplitl [H2]; · iexact H2
  isplitl [H3]; · iexact H3
  iexact H4

end Cert.KernelIdeal.Talk
-- ==== Proof.KernelIdeal.Body.lean ====
module

public import proofs.«01_k».proof.Proof.KernelIdeal.Forwards

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## Resources of all chunks -/

/-- The eight chunks as four pairs. -/
theorem big_pairs (Φ : Fin 8 → sProp 𝕄) :
    bigSep Finset.univ Φ = bigSep Finset.univ fun i : Fin 4 => iprop(Φ (ev i) ∗ Φ (od i)) := by
  rw [bigSep_univ_equiv (finProdFinEquiv (m := 4) (n := 2)) Φ, bigSep_univ_prod]
  congr 1; funext i
  rw [bigSep_univ_two]
  have h0 : finProdFinEquiv (m := 4) (n := 2) (i, 0) = ev i := by revert i; decide
  have h1 : finProdFinEquiv (m := 4) (n := 2) (i, 1) = od i := by revert i; decide
  rw [h0, h1]

/-- A first summand, -/
theorem big_first {k : ℕ} (Φ : Fin (k + 1) → sProp 𝕄) :
    bigSep Finset.univ Φ = iprop(Φ 0 ∗ bigSep Finset.univ fun i : Fin k => Φ i.succ) := by
  rw [Fin.univ_succ, Finset.cons_eq_insert, bigSep_insert (by simp [Fin.succ_ne_zero]), bigSep_map]
  rfl

/-- and a last one. -/
theorem big_last {k : ℕ} (Φ : Fin (k + 1) → sProp 𝕄) :
    bigSep Finset.univ Φ = iprop((bigSep Finset.univ fun i : Fin k => Φ i.castSucc) ∗ Φ (Fin.last k)) := by
  rw [Fin.univ_castSuccEmb, Finset.cons_eq_insert, bigSep_insert (by simp), bigSep_map]
  exact Idealize.SL.BI.Entails.antisymm Idealize.SL.BI.sep_comm Idealize.SL.BI.sep_comm

/-! ## Steps in a row -/

/-- Steps in a row, each taking its own resources and moving a shared state on by one. -/
theorem run_allN (d : Dev nD) : ∀ (k : ℕ) (f : Fin k → TP (F := F) PUnit) (A B : Fin k → sProp 𝕄) (I : Fin (k + 1) → sProp 𝕄)
    (_ : ∀ i R, iprop(recs m ∗ A i ∗ I i.castSucc) ⊢ iprop((I i.succ -∗ B i -∗ R) -∗ run d (f i) fun _ => R)) (R : sProp 𝕄),
    iprop(recs m ∗ bigSep Finset.univ A ∗ I 0) ⊢ iprop((I (Fin.last k) -∗ bigSep Finset.univ B -∗ R) -∗ run d (allN k f) fun _ => R)
  | 0, f, A, B, I, h, R => by
    iintro ⟨-, HA, HI⟩ Hk
    iapply (show R ⊢ run d (allN 0 f) fun _ => R from run_ret d PUnit.unit (fun _ => R))
    iapply Hk $$ [HI]
    · iapply (Entails.of_eq (show I 0 = I (Fin.last 0) from rfl)); iexact HI
    iapply (Entails.of_eq (show bigSep (Finset.univ : Finset (Fin 0)) A = bigSep Finset.univ B from by congr 1; funext i; exact i.elim0))
    iexact HA
  | k + 1, f, A, B, I, h, R => by
    rw [big_first A, big_first B]
    show _ ⊢ iprop(_ -∗ run d (f 0 >>= fun _ => allN k fun i => f i.succ) fun _ => R)
    rw [run_bind]
    iintro ⟨#Hrec, ⟨H0, HA⟩, HI⟩ Hk
    iapply (h 0 _) $$ [H0 HI]
    · isplitr; · iexact Hrec
      isplitl [H0]; · iexact H0
      iapply (Entails.of_eq (congrArg I (Fin.castSucc_zero (n := k + 1)).symm)); iexact HI
    iintro HI H0
    iapply (run_allN d k (fun i => f i.succ) (fun i => A i.succ) (fun i => B i.succ) (fun i => I i.succ)
      (fun i R => h i.succ R) R) $$ [HA HI]
    · isplitr; · iexact Hrec
      isplitl [HA]; · iexact HA
      iexact HI
    iintro HI HB
    iapply Hk $$ [HI] [H0 HB]
    · iapply (Entails.of_eq (congrArg I (Fin.succ_last k))); iexact HI
    isplitl [H0]; · iexact H0
    iexact HB

/-- The state between two pairs of sends. -/
def sendSt (d : Dev nD) (i : Fin 5) : sProp 𝕄 :=
  iprop(aPts m d ∗ slotLd d 0 i.val ∗ slotLd d 1 i.val ∗ owing d (3 + 2 * i.val))

theorem run_sendPair (d : Dev nD) (i : Fin 4) (R : sProp 𝕄) :
    iprop(recs m ∗ (sendRes d (ev i) ∗ sendRes d (od i)) ∗ sendSt m d i.castSucc)
      ⊢ iprop((sendSt m d i.succ -∗ (crd d (.xs (ev i)) ∗ crd d (.xs (od i))) -∗ R) -∗ run d (sendPair d i) fun _ => R) := by
  unfold sendPair sendSt
  rw [run_bind]
  iintro ⟨#Hrec, ⟨H0, H1⟩, Ha, Hs0, Hs1, Ho⟩ Hk
  iapply (run_sendRows m d (ev i) (3 + 2 * i.val) (by revert i; decide) (s := 0) (by revert i; decide) (r := i.val) (by revert i; decide)) $$ [H0 Ha Hs0 Ho]
  · isplitr; · iexact Hrec
    isplitl [Ha]; · iexact Ha
    isplitl [Hs0]; · iexact Hs0
    isplitl [H0]; · iexact H0
    iexact Ho
  iintro Ha Hs0 Hc0 Ho
  iapply (run_sendRows m d (od i) (3 + 2 * i.val + 1) (by revert i; decide) (s := 1) (by revert i; decide) (r := i.val) (by revert i; decide)) $$ [H1 Ha Hs1 Ho]
  · isplitr; · iexact Hrec
    isplitl [Ha]; · iexact Ha
    isplitl [Hs1]; · iexact Hs1
    isplitl [H1]; · iexact H1
    iexact Ho
  iintro Ha Hs1 Hc1 Ho
  iapply Hk $$ [Ha Hs0 Hs1 Ho] [Hc0 Hc1]
  · isplitl [Ha]; · iexact Ha
    isplitl [Hs0]; · iexact Hs0
    isplitl [Hs1]; · iexact Hs1
    iapply (Entails.of_eq (congrArg (owing d) (show 3 + 2 * i.val + 1 + 1 = 3 + 2 * i.succ.val by rw [Fin.val_succ]; omega))); iexact Ho
  · isplitl [Hc0]; · iexact Hc0
    iexact Hc1

/-- What a pair of the second phase takes, -/
def pairRes (d : Dev nD) (i : Fin 4) : sProp 𝕄 :=
  iprop((readRes d (ev i) ∗ readRes d (od i)) ∗ (emitRes d (ev i) ∗ emitRes d (od i)) ∗ fwdYRes d i)
/-- and leaves. -/
def pairDone (d : Dev nD) (i : Fin 4) : sProp 𝕄 :=
  iprop((readDone d (ev i) ∗ readDone d (od i)) ∗ fwdYDone d i)
/-- The state after a pair of the second phase. -/
def pairSt (d : Dev nD) (i : Fin 4) : sProp 𝕄 :=
  iprop(aPts m d ∗ gPts m d ∗ slotLd d 0 (5 + i.val) ∗ slotLd d 1 (5 + i.val) ∗ flying d 0 i.val (ev i) ∗ flying d 1 i.val (od i)
    ∗ owing d (16 + 6 * i.val))

theorem run_firstPair (d : Dev nD) (R : sProp 𝕄) :
    iprop(recs m ∗ (aPts m d ∗ gPts m d ∗ slotLd d 0 4 ∗ slotLd d 1 4) ∗ (slotOb d 0 0 ∗ slotOb d 1 0) ∗ pairRes d 0 ∗ owing d 11)
      ⊢ iprop((pairSt m d 0 -∗ pairDone d 0 -∗ R) -∗ run d (firstPair d) fun _ => R) := by
  unfold firstPair pairRes pairSt pairDone
  simp only [run_bind]
  iintro ⟨#Hrec, ⟨Ha, Hg, Hs0, Hs1⟩, ⟨Hb0, Hb1⟩, ⟨⟨Hr0, Hr1⟩, ⟨He0, He1⟩, Hf⟩, Ho⟩ Hk
  iapply (run_readRows m d (ev 0) 11 (by decide) (s := 0) (by decide) (r := 4) (by decide)) $$ [Ha Hg Hs0 Hr0 Ho]
  · isplitr; · iexact Hrec
    isplitl [Ha]; · iexact Ha
    isplitl [Hg]; · iexact Hg
    isplitl [Hs0]; · iexact Hs0
    isplitl [Hr0]; · iexact Hr0
    iexact Ho
  iintro Ha Hg Hs0 Hr0 Ho
  iapply (run_emitRows m d (ev 0) 11 (by decide) (by decide) (s := 0) (by decide) (r := 0) (by decide)) $$ [Hb0 He0 Ho]
  · isplitr; · iexact Hrec
    isplitl [Hb0]; · iexact Hb0
    isplitl [He0]; · iexact He0
    iexact Ho
  iintro Hb0 Ho
  iapply (run_readRows m d (od 0) 13 (by decide) (s := 1) (by decide) (r := 4) (by decide)) $$ [Ha Hg Hs1 Hr1 Ho]
  · isplitr; · iexact Hrec
    isplitl [Ha]; · iexact Ha
    isplitl [Hg]; · iexact Hg
    isplitl [Hs1]; · iexact Hs1
    isplitl [Hr1]; · iexact Hr1
    iexact Ho
  iintro Ha Hg Hs1 Hr1 Ho
  iapply (run_emitRows m d (od 0) 13 (by decide) (by decide) (s := 1) (by decide) (r := 0) (by decide)) $$ [Hb1 He1 Ho]
  · isplitr; · iexact Hrec
    isplitl [Hb1]; · iexact Hb1
    isplitl [He1]; · iexact He1
    iexact Ho
  iintro Hb1 Ho
  iapply (run_fwdY m d 0 15 (by decide) (by decide)) $$ [Hf Ho]
  · isplitr; · iexact Hrec
    isplitl [Hf]; · iexact Hf
    iexact Ho
  iintro Hf Ho
  iapply Hk $$ [Ha Hg Hs0 Hs1 Hb0 Hb1 Ho] [Hr0 Hr1 Hf]
  · isplitl [Ha]; · iexact Ha
    isplitl [Hg]; · iexact Hg
    isplitl [Hs0]; · iexact Hs0
    isplitl [Hs1]; · iexact Hs1
    isplitl [Hb0]; · iexact Hb0
    isplitl [Hb1]; · iexact Hb1
    iexact Ho
  · isplitl [Hr0 Hr1]
    · isplitl [Hr0]; · iexact Hr0
      iexact Hr1
    iexact Hf

theorem run_nextPair (d : Dev nD) (j : Fin 3) (R : sProp 𝕄) :
    iprop(recs m ∗ (pairRes d j.succ ∗ fwdZRes d j.castSucc) ∗ pairSt m d j.castSucc)
      ⊢ iprop((pairSt m d j.succ -∗ (pairDone d j.succ ∗ fwdZDone d j.castSucc ∗ (drained m d (ev j.castSucc) ∗ drained m d (od j.castSucc))) -∗ R)
          -∗ run d (nextPair d j) fun _ => R) := by
  unfold nextPair pairRes pairSt pairDone
  simp only [run_bind]
  have e : j.succ.val = j.val + 1 := rfl
  have e' : j.castSucc.val = j.val := rfl
  rw [e, e']
  iintro ⟨#Hrec, ⟨⟨⟨Hr0, Hr1⟩, ⟨He0, He1⟩, Hf⟩, Hz⟩, Ha, Hg, Hs0, Hs1, Hb0, Hb1, Ho⟩ Hk
  iapply (run_readRows m d (ev j.succ) (16 + 6 * j.val) (by revert j; decide) (s := 0) (by revert j; decide) (r := 5 + j.val) (by revert j; decide))
    $$ [Ha Hg Hs0 Hr0 Ho]
  · isplitr; · iexact Hrec
    isplitl [Ha]; · iexact Ha
    isplitl [Hg]; · iexact Hg
    isplitl [Hs0]; · iexact Hs0
    isplitl [Hr0]; · iexact Hr0
    iexact Ho
  iintro Ha Hg Hs0 Hr0 Ho
  iapply (run_drain m d (ev j.castSucc) (16 + 6 * j.val) (s := 0) (by revert j; decide) (r := j.val) (by revert j; decide)) $$ [Hb0 Ho]
  · isplitr; · iexact Hrec
    isplitl [Hb0]; · iexact Hb0
    iexact Ho
  iintro Hb0 Hd0 Ho
  iapply (run_emitRows m d (ev j.succ) (16 + 6 * j.val) (by revert j; decide) (by revert j; decide) (s := 0) (by revert j; decide) (r := j.val + 1)
    (by revert j; decide)) $$ [Hb0 He0 Ho]
  · isplitr; · iexact Hrec
    isplitl [Hb0]; · iexact Hb0
    isplitl [He0]; · iexact He0
    iexact Ho
  iintro Hb0 Ho
  iapply (run_fwdZ m d j.castSucc (16 + 6 * j.val + 2) (by revert j; decide) (by revert j; decide)) $$ [Hz Ho]
  · isplitr; · iexact Hrec
    isplitl [Hz]; · iexact Hz
    iexact Ho
  iintro Hz Ho
  iapply (run_readRows m d (od j.succ) (16 + 6 * j.val + 2 + 1) (by revert j; decide) (s := 1) (by revert j; decide) (r := 5 + j.val) (by revert j; decide))
    $$ [Ha Hg Hs1 Hr1 Ho]
  · isplitr; · iexact Hrec
    isplitl [Ha]; · iexact Ha
    isplitl [Hg]; · iexact Hg
    isplitl [Hs1]; · iexact Hs1
    isplitl [Hr1]; · iexact Hr1
    iexact Ho
  iintro Ha Hg Hs1 Hr1 Ho
  iapply (run_drain m d (od j.castSucc) (16 + 6 * j.val + 2 + 1) (s := 1) (by revert j; decide) (r := j.val) (by revert j; decide)) $$ [Hb1 Ho]
  · isplitr; · iexact Hrec
    isplitl [Hb1]; · iexact Hb1
    iexact Ho
  iintro Hb1 Hd1 Ho
  iapply (run_emitRows m d (od j.succ) (16 + 6 * j.val + 2 + 1) (by revert j; decide) (by revert j; decide) (s := 1) (by revert j; decide) (r := j.val + 1)
    (by revert j; decide)) $$ [Hb1 He1 Ho]
  · isplitr; · iexact Hrec
    isplitl [Hb1]; · iexact Hb1
    isplitl [He1]; · iexact He1
    iexact Ho
  iintro Hb1 Ho
  iapply (run_fwdY m d j.succ (16 + 6 * j.val + 2 + 1 + 2) (by revert j; decide) (by revert j; decide)) $$ [Hf Ho]
  · isplitr; · iexact Hrec
    isplitl [Hf]; · iexact Hf
    iexact Ho
  iintro Hf Ho
  iapply Hk $$ [Ha Hg Hs0 Hs1 Hb0 Hb1 Ho] [Hr0 Hr1 Hf Hz Hd0 Hd1]
  · isplitl [Ha]; · iexact Ha
    isplitl [Hg]; · iexact Hg
    isplitl [Hs0]; · iexact Hs0
    isplitl [Hs1]; · iexact Hs1
    isplitl [Hb0]; · iexact Hb0
    isplitl [Hb1]; · iexact Hb1
    iapply (Entails.of_eq (congrArg (owing d) (show 16 + 6 * j.val + 2 + 1 + 2 + 1 = 16 + 6 * (j.val + 1) by omega))); iexact Ho
  · isplitl [Hr0 Hr1 Hf]
    · isplitl [Hr0 Hr1]
      · isplitl [Hr0]; · iexact Hr0
        iexact Hr1
      iexact Hf
    isplitl [Hz]; · iexact Hz
    isplitl [Hd0]; · iexact Hd0
    iexact Hd1

/-! ## The whole body -/

/-- What a device starts with: its arguments, its part of the entry handshake, its slots, and of each chunk what is its own. -/
def bodyRes (d : Dev nD) : sProp 𝕄 :=
  iprop((aPts m d ∗ gPts m d) ∗ enterRes d
    ∗ (slotLd d 0 0 ∗ slotLd d 1 0 ∗ slotOb d 0 0 ∗ slotOb d 1 0)
    ∗ (bigSep Finset.univ fun c : Fin 8 => sendOwn d c) ∗ (bigSep Finset.univ fun c : Fin 8 => readRes d c)
    ∗ (bigSep Finset.univ fun c : Fin 8 => emitOwn d c)
    ∗ (bigSep Finset.univ fun i : Fin 4 => fwdYOwn d i) ∗ (bigSep Finset.univ fun i : Fin 4 => fwdZOwn d i)
    ∗ (bigSep Finset.univ fun i : Fin 4 => iprop(due1 d (.inl (ev i, 3)) ∗ due1 d (.inl (od i, 5))))
    ∗ (bigSep Finset.univ fun c : Fin 8 => pos d (.xs c) 0)
    ∗ (bigSep Finset.univ fun i : Fin 4 => pos d (.fys i) 0) ∗ (bigSep Finset.univ fun i : Fin 4 => pos d (.fzs i) 0)
    ∗ (bigSep Finset.univ fun i : Fin 4 => due1 d (.inr (.inl (i, 1)))) ∗ (bigSep Finset.univ fun i : Fin 4 => due1 d (.inr (.inl (i, 3)))))

/-- What it ends with: every cell at its last round, the blocks received and computed, and its scratch. -/
def bodyDone (d : Dev nD) : sProp 𝕄 :=
  iprop((aPts m d ∗ gPts m d) ∗ pos d .bar 1
    ∗ (slotLd d 0 8 ∗ slotLd d 1 8 ∗ slotOb d 0 4 ∗ slotOb d 1 4)
    ∗ (bigSep Finset.univ fun c : Fin 8 => readDone d c) ∗ (bigSep Finset.univ fun c : Fin 8 => drained m d c)
    ∗ (bigSep Finset.univ fun i : Fin 4 => pos d (.zr (ev i)) 1) ∗ (bigSep Finset.univ fun i : Fin 4 => pos d (.yr (od i)) 1)
    ∗ (bigSep Finset.univ fun i : Fin 4 => iprop(done1 m d (.inl (ev i, 3)) ∗ done1 m d (.inl (od i, 5))))
    ∗ (bigSep Finset.univ fun c : Fin 8 => done1 m d (.inl (c, 0)))
    ∗ (bigSep Finset.univ fun i : Fin 4 => iprop(done1 m d (.inr (.inl (i, 0))) ∗ done1 m d (.inr (.inl (i, 2))) ∗ done1 m d (.inr (.inl (i, 1)))
        ∗ done1 m d (.inr (.inl (i, 3))))))

/-- The slots of the peers that the entry handshake hands over go to the chunks that fill them. -/
theorem hand_over (d : Dev nD) :
    iprop(payBar d 0 ∗ payBar d 1 ∗ payBar d 2 ∗ (bigSep Finset.univ fun c : Fin 8 => sendOwn d c) ∗ (bigSep Finset.univ fun c : Fin 8 => emitOwn d c)
      ∗ (bigSep Finset.univ fun i : Fin 4 => fwdYOwn d i) ∗ (bigSep Finset.univ fun i : Fin 4 => fwdZOwn d i))
    ⊢ (iprop((bigSep Finset.univ fun c : Fin 8 => sendRes d c) ∗ (bigSep Finset.univ fun c : Fin 8 => emitRes d c)
      ∗ (bigSep Finset.univ fun i : Fin 4 => fwdYRes d i) ∗ (bigSep Finset.univ fun i : Fin 4 => fwdZRes d i)) : sProp 𝕄) := by
  unfold sendRes emitRes fwdYRes fwdZRes payBar
  simp only [bigSep_sep']
  iintro ⟨H0, ⟨Hy, Hye⟩, ⟨Hz, Hzo⟩, Hs, He, Hfy, Hfz⟩
  isplitl [Hs H0]
  · isplitl [Hs]; · iexact Hs
    iexact H0
  isplitl [He Hy Hz]
  · isplitl [He]; · iexact He
    isplitl [Hy]; · iexact Hy
    iexact Hz
  isplitl [Hfy Hye]
  · isplitl [Hfy]; · iexact Hfy
    iexact Hye
  isplitl [Hfz]; · iexact Hfz
  iexact Hzo

/-- The first phase. -/
theorem run_sends (d : Dev nD) (R : sProp 𝕄) :
    iprop(recs m ∗ (bigSep Finset.univ fun c : Fin 8 => sendRes d c) ∗ aPts m d ∗ slotLd d 0 0 ∗ slotLd d 1 0 ∗ owing d 3)
      ⊢ iprop((aPts m d -∗ slotLd d 0 4 -∗ slotLd d 1 4 -∗ owing d 11 -∗ (bigSep Finset.univ fun c : Fin 8 => crd d (.xs c)) -∗ R)
        -∗ run d (allN 4 (sendPair d)) fun _ => R) := by
  rw [big_pairs (fun c => sendRes d c), big_pairs (fun c => crd d (.xs c))]
  iintro ⟨#Hrec, Hs, Hst⟩ Hk
  iapply (run_allN m d 4 (sendPair d) _ (fun i => iprop(crd d (.xs (ev i)) ∗ crd d (.xs (od i)))) (sendSt m d) (run_sendPair m d) R) $$ [Hs Hst]
  · isplitr; · iexact Hrec
    isplitl [Hs]; · iexact Hs
    unfold sendSt; iexact Hst
  iintro Hst Hc
  ihave Hst := (show sendSt m d (Fin.last 4) ⊢ iprop(aPts m d ∗ slotLd d 0 4 ∗ slotLd d 1 4 ∗ owing d 11) from BI.BIBase.Entails.rfl) $$ Hst
  icases Hst with ⟨Ha, Hs0, Hs1, Ho⟩
  iapply Hk $$ Ha Hs0 Hs1 Ho Hc

theorem big_pairRes (d : Dev nD) :
    (iprop((bigSep Finset.univ fun c : Fin 8 => readRes d c) ∗ (bigSep Finset.univ fun c : Fin 8 => emitRes d c) ∗ bigSep Finset.univ fun i : Fin 4 => fwdYRes d i) : sProp 𝕄)
      = bigSep Finset.univ fun i : Fin 4 => pairRes d i := by
  unfold pairRes
  rw [big_pairs (fun c => readRes d c), big_pairs (fun c => emitRes d c), ← bigSep_sep', ← bigSep_sep']
theorem big_pairDone (d : Dev nD) :
    (bigSep Finset.univ fun i : Fin 4 => pairDone d i)
      = (iprop((bigSep Finset.univ fun c : Fin 8 => readDone d c) ∗ bigSep Finset.univ fun i : Fin 4 => fwdYDone d i) : sProp 𝕄) := by
  unfold pairDone
  rw [bigSep_sep', ← big_pairs]

/-- The second phase, up to its last forwarding. -/
theorem run_pairs (d : Dev nD) (R : sProp 𝕄) :
    iprop(recs m ∗ (aPts m d ∗ gPts m d ∗ slotLd d 0 4 ∗ slotLd d 1 4) ∗ (slotOb d 0 0 ∗ slotOb d 1 0) ∗ (bigSep Finset.univ fun i : Fin 4 => pairRes d i)
        ∗ (bigSep Finset.univ fun i : Fin 4 => fwdZRes d i) ∗ owing d 11)
      ⊢ iprop((pairSt m d 3 -∗ (bigSep Finset.univ fun i : Fin 4 => pairDone d i) -∗ (bigSep Finset.univ fun j : Fin 3 => fwdZDone d j.castSucc)
          -∗ (bigSep Finset.univ fun j : Fin 3 => iprop(drained m d (ev j.castSucc) ∗ drained m d (od j.castSucc))) -∗ fwdZRes d 3 -∗ R)
        -∗ run d (firstPair d) fun _ => run d (allN 3 (nextPair d)) fun _ => R) := by
  rw [big_first (fun i => pairRes d i), big_first (fun i => pairDone d i), big_last (fun i => fwdZRes d i)]
  iintro ⟨#Hrec, Hsl, Hob, ⟨Hp0, Hp⟩, ⟨Hz, Hz3⟩, Ho⟩ Hk
  iapply (run_firstPair m d) $$ [Hsl Hob Hp0 Ho]
  · isplitr; · iexact Hrec
    isplitl [Hsl]; · iexact Hsl
    isplitl [Hob]; · iexact Hob
    isplitl [Hp0]; · iexact Hp0
    iexact Ho
  iintro Hst Hp0
  iapply (run_allN m d 3 (nextPair d) (fun j => iprop(pairRes d j.succ ∗ fwdZRes d j.castSucc))
    (fun j => iprop(pairDone d j.succ ∗ fwdZDone d j.castSucc ∗ (drained m d (ev j.castSucc) ∗ drained m d (od j.castSucc))))
    (pairSt m d) (run_nextPair m d) R) $$ [Hp Hz Hst]
  · isplitr; · iexact Hrec
    isplitl [Hp Hz]
    · iapply (Entails.of_eq (bigSep_sep' Finset.univ (fun j : Fin 3 => pairRes d j.succ) (fun j : Fin 3 => fwdZRes d j.castSucc)).symm)
      isplitl [Hp]; · iexact Hp
      iexact Hz
    iexact Hst
  iintro Hst Hd
  ihave Hd := (Entails.of_eq (show (bigSep Finset.univ fun j : Fin 3 => iprop(pairDone d j.succ ∗ fwdZDone d j.castSucc ∗ (drained m d (ev j.castSucc) ∗ drained m d (od j.castSucc))))
    = iprop((bigSep Finset.univ fun j : Fin 3 => pairDone d j.succ) ∗ (bigSep Finset.univ fun j : Fin 3 => fwdZDone d j.castSucc)
      ∗ (bigSep Finset.univ fun j : Fin 3 => iprop(drained m d (ev j.castSucc) ∗ drained m d (od j.castSucc)))) from by rw [bigSep_sep', bigSep_sep'])) $$ Hd
  icases Hd with ⟨Hp, Hz, Hd⟩
  iapply Hk $$ [Hst] [Hp0 Hp] Hz Hd [Hz3]
  · iapply (Entails.of_eq (show pairSt m d (Fin.last 3) = pairSt m d 3 from rfl)); iexact Hst
  · isplitl [Hp0]; · iexact Hp0
    iexact Hp
  iapply (Entails.of_eq (show fwdZRes d (Fin.last 3) = fwdZRes d 3 from rfl)); iexact Hz3

theorem run_steps (d : Dev nD) (R : sProp 𝕄) :
    iprop(recs m ∗ bodyRes m d ∗ owing d 0)
      ⊢ iprop((owing d 35 -∗ bodyDone m d -∗ R) -∗ run d (steps d) fun _ => R) := by
  unfold steps bodyRes bodyDone
  simp only [run_bind]
  iintro ⟨#Hrec, ⟨⟨Ha, Hg⟩, Hen, ⟨Hs0, Hs1, Hb0, Hb1⟩, Hse, Hre, Hem, Hfy, Hfz, Hrw, Hxs, Hpy, Hpz, Hdy, Hdz⟩, Ho⟩ Hk
  iapply (run_enter m d) $$ [Hen Ho]
  · isplitr; · iexact Hrec
    isplitl [Hen]; · iexact Hen
    iexact Ho
  iintro Ho Hbar H0 H1 H2
  ihave HH := (hand_over d) $$ [H0 H1 H2 Hse Hem Hfy Hfz]
  · isplitl [H0]; · iexact H0
    isplitl [H1]; · iexact H1
    isplitl [H2]; · iexact H2
    isplitl [Hse]; · iexact Hse
    isplitl [Hem]; · iexact Hem
    isplitl [Hfy]; · iexact Hfy
    iexact Hfz
  icases HH with ⟨Hse, Hem, Hfy, Hfz⟩
  iapply (run_sends m d) $$ [Hse Ha Hs0 Hs1 Ho]
  · isplitr; · iexact Hrec
    isplitl [Hse]; · iexact Hse
    isplitl [Ha]; · iexact Ha
    isplitl [Hs0]; · iexact Hs0
    isplitl [Hs1]; · iexact Hs1
    iexact Ho
  iintro Ha Hs0 Hs1 Ho Hcx
  iapply (run_pairs m d) $$ [Ha Hg Hs0 Hs1 Hb0 Hb1 Hre Hem Hfy Hfz Ho]
  · isplitr; · iexact Hrec
    isplitl [Ha Hg Hs0 Hs1]
    · isplitl [Ha]; · iexact Ha
      isplitl [Hg]; · iexact Hg
      isplitl [Hs0]; · iexact Hs0
      iexact Hs1
    isplitl [Hb0 Hb1]
    · isplitl [Hb0]; · iexact Hb0
      iexact Hb1
    isplitl [Hre Hem Hfy]
    · iapply (Entails.of_eq (big_pairRes d))
      isplitl [Hre]; · iexact Hre
      isplitl [Hem]; · iexact Hem
      iexact Hfy
    isplitl [Hfz]; · iexact Hfz
    iexact Ho
  iintro Hst Hp Hz Hd Hz3
  ihave Hst := (show pairSt m d 3 ⊢ iprop(aPts m d ∗ gPts m d ∗ slotLd d 0 8 ∗ slotLd d 1 8 ∗ flying d 0 3 (ev 3) ∗ flying d 1 3 (od 3) ∗ owing d 34) from BI.BIBase.Entails.rfl) $$ Hst
  icases Hst with ⟨Ha, Hg, Hs0, Hs1, Hb0, Hb1, Ho⟩
  ihave Hp := (Entails.of_eq (big_pairDone d)) $$ Hp
  icases Hp with ⟨Hre, Hfy⟩
  iapply (run_fwdZ m d 3 34 (by decide) (by decide)) $$ [Hz3 Ho]
  · isplitr; · iexact Hrec
    isplitl [Hz3]; · iexact Hz3
    iexact Ho
  iintro Hz3 Ho
  iapply (run_allN m d 4 (restWait d) _ _ (fun _ => owing d 35) (fun i R => run_restWait m d i fun _ => R) _) $$ [Hrw Ho]
  · isplitr; · iexact Hrec
    isplitl [Hrw]; · iexact Hrw
    iexact Ho
  iintro Ho Hrw
  iapply (run_drain m d (ev 3) 35 (s := 0) (by decide) (r := 3) (by decide)) $$ [Hb0 Ho]
  · isplitr; · iexact Hrec
    isplitl [Hb0]; · iexact Hb0
    iexact Ho
  iintro Hb0 Hd0 Ho
  iapply (run_drain m d (od 3) 35 (s := 1) (by decide) (r := 3) (by decide)) $$ [Hb1 Ho]
  · isplitr; · iexact Hrec
    isplitl [Hb1]; · iexact Hb1
    iexact Ho
  iintro Hb1 Hd1 Ho
  iapply (run_allN m d 8 xsWait (fun c => due1 d (.inl (c, 0))) _ (fun _ => owing d 35) (fun c R => run_xsWait m d c fun _ => R) _) $$ [Hcx Hxs Ho]
  · isplitr; · iexact Hrec
    isplitl [Hcx Hxs]
    · iapply (Entails.of_eq (bigSep_sep' Finset.univ (fun c : Fin 8 => crd d (.xs c)) (fun c : Fin 8 => pos d (.xs c) 0)).symm)
      isplitl [Hcx]; · iexact Hcx
      iexact Hxs
    iexact Ho
  iintro Ho Hxs
  ihave Hfy := (Entails.of_eq (show (bigSep Finset.univ fun i : Fin 4 => fwdYDone d i)
      = iprop((bigSep Finset.univ fun i : Fin 4 => pos d (.zr (ev i)) 1) ∗ bigSep Finset.univ fun i : Fin 4 => crd d (.fys i)) from
    bigSep_sep' Finset.univ (fun i : Fin 4 => pos d (.zr (ev i)) 1) (fun i => crd d (.fys i)))) $$ Hfy
  icases Hfy with ⟨Hzr, Hcy⟩
  ihave Hz := (Entails.of_eq (show iprop((bigSep Finset.univ fun j : Fin 3 => fwdZDone d j.castSucc) ∗ fwdZDone d 3)
      = iprop((bigSep Finset.univ fun i : Fin 4 => pos d (.yr (od i)) 1) ∗ bigSep Finset.univ fun i : Fin 4 => crd d (.fzs i)) from
    (big_last (fun i : Fin 4 => fwdZDone d i)).symm.trans (bigSep_sep' Finset.univ (fun i : Fin 4 => pos d (.yr (od i)) 1) (fun i => crd d (.fzs i))))) $$ [Hz Hz3]
  · isplitl [Hz]; · iexact Hz
    iexact Hz3
  icases Hz with ⟨Hyr, Hcz⟩
  iapply (run_allN m d 4 (fwdWait d) _ _ (fun _ => owing d 35) (fun i R => run_fwdWait m d i fun _ => R) _) $$ [Hcy Hcz Hpy Hpz Hdy Hdz Ho]
  · isplitr; · iexact Hrec
    isplitr [Ho]
    · simp only [bigSep_sep', due1]
      isplitl [Hcy Hpy]
      · isplitl [Hcy]; · iexact Hcy
        iexact Hpy
      isplitl [Hcz Hpz]
      · isplitl [Hcz]; · iexact Hcz
        iexact Hpz
      isplitl [Hdy]
      · iexact Hdy
      iexact Hdz
    iexact Ho
  iintro Ho Hfw
  iapply Hk $$ [Ho]
  · iexact Ho
  isplitl [Ha Hg]
  · isplitl [Ha]; · iexact Ha
    iexact Hg
  isplitl [Hbar]; · iexact Hbar
  isplitl [Hs0 Hs1 Hb0 Hb1]
  · isplitl [Hs0]; · iexact Hs0
    isplitl [Hs1]; · iexact Hs1
    isplitl [Hb0]; · iexact Hb0
    iexact Hb1
  isplitl [Hre]; · iexact Hre
  isplitl [Hd Hd0 Hd1]
  · iapply (Entails.of_eq (big_pairs (fun c => drained m d c)).symm)
    iapply (Entails.of_eq (big_last (fun i : Fin 4 => iprop(drained m d (ev i) ∗ drained m d (od i)))).symm)
    isplitl [Hd]; · iexact Hd
    isplitl [Hd0]; · iexact Hd0
    iexact Hd1
  isplitl [Hzr]; · iexact Hzr
  isplitl [Hyr]; · iexact Hyr
  isplitl [Hrw]; · iexact Hrw
  isplitl [Hxs]; · iexact Hxs
  iexact Hfw

end Cert.KernelIdeal.Talk
-- ==== Proof.KernelIdeal.Ends.lean ====
module

public import proofs.«01_k».proof.Proof.KernelIdeal.Body

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## All cells of a device -/

theorem big_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem big_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A conjunction over the cells, kind by kind. -/
theorem big_cells (Φ : CK → sProp 𝕄) :
    bigSep Finset.univ Φ
      = iprop(Φ .bar
        ∗ ((bigSep Finset.univ fun c : Fin 8 => Φ (.xs c)) ∗ (bigSep Finset.univ fun c : Fin 8 => Φ (.xr c))
          ∗ (bigSep Finset.univ fun c : Fin 8 => Φ (.ys c)) ∗ (bigSep Finset.univ fun c : Fin 8 => Φ (.yr c))
          ∗ (bigSep Finset.univ fun c : Fin 8 => Φ (.zs c)) ∗ (bigSep Finset.univ fun c : Fin 8 => Φ (.zr c)))
        ∗ ((bigSep Finset.univ fun i : Fin 4 => Φ (.fys i)) ∗ (bigSep Finset.univ fun i : Fin 4 => Φ (.fyr i))
          ∗ (bigSep Finset.univ fun i : Fin 4 => Φ (.fzs i)) ∗ (bigSep Finset.univ fun i : Fin 4 => Φ (.fzr i)))
        ∗ (Φ (.ld 0) ∗ Φ (.ld 1)) ∗ (Φ (.od 0) ∗ Φ (.od 1))) := by
  rw [bigSep_univ_sum, bigSep_univ_sum, bigSep_univ_sum, bigSep_univ_prod, bigSep_univ_prod, bigSep_univ_prod]
  simp only [big_six, big_four, bigSep_univ_two, bigSep_sep']
  rw [show (bigSep (Finset.univ : Finset Unit) fun a => Φ (.inl a)) = Φ .bar from
    bigSep_univ_eq_bigSepL [()] (by decide) (by decide) (fun a : Unit => Φ (.inl a))]
  rfl

theorem big_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  iintro ⟨#HR, H⟩
  ihave HR' := (BI.bigSep_of_persistent S R) $$ HR
  ihave H := (Entails.of_eq (bigSep_sep' S (fun _ => R) Φ).symm) $$ [HR' H]
  · isplitl [HR']; · iexact HR'
    iexact H
  iapply (show bigSep S (fun i => iprop(R ∗ Φ i)) ⊢ bigSep S Ψ from bigSep_mono h); iexact H

/-- After its last round every cell gives its counter back, at zero. -/
theorem close_all (d : Dev nD) :
    iprop(recs m ∗ bigSep Finset.univ fun k : CK => pos d k (rounds k)) ⊢ (|={Set.univ}=> bigSep Finset.univ fun k : CK => semVal (cell d k) 0 : sProp 𝕄) :=
  (big_persistent (Ψ := fun k => iprop(|={Set.univ}=> semVal (cell d k) 0)) fun k _ => by
    iintro ⟨#Hrec, Hp⟩
    ihave HI := (recs_inv m d k) $$ Hrec
    icases HI with ⟨%κ, #HI⟩
    iapply (show iprop(cellInv ER (Rd (F := F) m) κ (cell d k) ∗ atPos ER (cell d k) (rounds k) ∅ 0) ⊢ (|={Set.univ}=> semVal (cell d k) 0 : sProp 𝕄) from
      Rounds.cell_close ER (Rd m) (Set.mem_univ κ) (fun h => h) (R := rounds k) fun r hr => duties_end m d k r hr)
    isplitr; · iexact HI
    unfold pos; iexact Hp).trans (bigSep_fupd _ _)

/-! ## Whole buffers from their slots -/

/-- Contents given on disjoint rectangles come from contents of the whole. -/
theorem glue {sh : Shape} {α : Type} [Nonempty α] {T : Type} (r : T → Rect sh) (hd : ∀ t t', t ≠ t' → Disjoint (r t).set (r t').set)
    (Y : (t : T) → (r t).shape.Idx → α) : ∃ X : sh.Idx → α, ∀ t j, X ((r t).emb j) = Y t j := by
  classical
  refine ⟨fun i => if h : ∃ p : (t : T) × (r t).shape.Idx, (r p.1).emb p.2 = i then Y h.choose.1 h.choose.2 else Classical.arbitrary α, fun t j => ?_⟩
  have h : ∃ p : (t' : T) × (r t').shape.Idx, (r p.1).emb p.2 = (r t).emb j := ⟨⟨t, j⟩, rfl⟩
  refine (dif_pos h).trans ?_
  generalize hp : h.choose = p
  have hp' : (r p.1).emb p.2 = (r t).emb j := hp ▸ h.choose_spec
  obtain ⟨t', j'⟩ := p
  by_cases e : t' = t
  · subst e; rw [(r t').emb.injective hp']
  · have hm : (r t).emb j ∈ (r t).set := by rw [← Rect.map_emb_univ]; exact Finset.mem_map_of_mem _ (Finset.mem_univ j)
    have hm' : (r t).emb j ∈ (r t').set := by rw [← hp', ← Rect.map_emb_univ]; exact Finset.mem_map_of_mem _ (Finset.mem_univ j')
    exact absurd hm (Finset.disjoint_left.mp (hd t' t e) hm')

section Parts

variable (d : Dev nD) {sp : Space} {sh : Shape} {e : EltTy} (v : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

theorem some_parts : (some_ d v : sProp 𝕄) ⊢ bigSep Finset.univ fun t => some_ d (v.slice (r t) (hr t)) := by
  unfold some_
  iintro ⟨%X, H⟩
  iapply (show (owns (d : Thread nD τ) v fullShare X : sProp 𝕄) ⊢ bigSep Finset.univ fun t => iprop(∃ X, owns (d : Thread nD τ) (v.slice (r t) (hr t)) fullShare X) from
    (owns_rects (d : Thread nD τ) v fullShare r hr hd hcov X).trans (bigSep_mono fun t _ => some_intro d (v.slice (r t) (hr t)) _))
  iexact H

theorem some_of_parts : (bigSep Finset.univ fun t => some_ d (v.slice (r t) (hr t))) ⊢ (some_ d v : sProp 𝕄) := by
  unfold some_
  iintro H
  ihave H := (BI.bigSep_exists_pi Finset.univ (fun (t : T) (X : (r t).shape.Idx → Elt F e) => (owns (d : Thread nD τ) (v.slice (r t) (hr t)) fullShare X : sProp 𝕄))) $$ H
  icases H with ⟨%Y, H⟩
  obtain ⟨X, hX⟩ := glue r hd Y
  iexists X
  iapply (owns_of_rects (d : Thread nD τ) v fullShare r hr hd hcov X)
  iapply (Entails.of_eq (bigSep_congr fun t _ => congrArg (owns (d : Thread nD τ) (v.slice (r t) (hr t)) fullShare) (funext fun j => (hX t j).symm)))
  iexact H

end Parts

theorem apart8 (t t' : Fin 8) (h : t ≠ t') : Disjoint (rect8 t).set (rect8 t').set :=
  Rect.unit_disjoint (0 : Fin 3) (by
    have := Fin.val_ne_of_ne h
    show t.val + 1 ≤ t'.val ∨ t'.val + 1 ≤ t.val; omega)
theorem apart2 (t t' : Fin 2) (h : t ≠ t') : Disjoint (rect2 t).set (rect2 t').set :=
  Rect.unit_disjoint (0 : Fin 3) (by
    have := Fin.val_ne_of_ne h
    show t.val + 1 ≤ t'.val ∨ t'.val + 1 ≤ t.val; omega)
theorem cover8 : (Finset.univ : Finset (Fin 8)).biUnion (fun t => (rect8 t).set) = Finset.univ := by
  refine Finset.eq_univ_of_forall fun i => Finset.mem_biUnion.mpr ⟨(i (0 : Fin 3) : Fin 8), Finset.mem_univ _, Rect.mem_set_unit.mpr fun a => ?_⟩
  fin_cases a
  · exact ⟨le_rfl, Nat.lt_succ_self _⟩
  · exact ⟨Nat.zero_le _, (i (1 : Fin 3)).isLt.trans_eq (Nat.zero_add _).symm⟩
  · exact ⟨Nat.zero_le _, (i (2 : Fin 3)).isLt.trans_eq (Nat.zero_add _).symm⟩
theorem cover2 : (Finset.univ : Finset (Fin 2)).biUnion (fun t => (rect2 t).set) = Finset.univ := by
  refine Finset.eq_univ_of_forall fun i => Finset.mem_biUnion.mpr ⟨(i (0 : Fin 3) : Fin 2), Finset.mem_univ _, Rect.mem_set_unit.mpr fun a => ?_⟩
  fin_cases a
  · exact ⟨le_rfl, Nat.lt_succ_self _⟩
  · exact ⟨Nat.zero_le _, (i (1 : Fin 3)).isLt.trans_eq (Nat.zero_add _).symm⟩
  · exact ⟨Nat.zero_le _, (i (2 : Fin 3)).isLt.trans_eq (Nat.zero_add _).symm⟩

/-- The chunks of the result, -/
abbrev rectT (t : Fin 4 × Fin 8) : Rect S4096x4096 := rectO t.1 t.2
theorem apartO (t t' : Fin 4 × Fin 8) (h : t ≠ t') : Disjoint (rectT t).set (rectT t').set := by
  obtain ⟨q, k⟩ := t; obtain ⟨q', k'⟩ := t'
  refine Rect.unit_disjoint (0 : Fin 2) ?_
  show 1024 * q.val + 128 * k.val + 128 ≤ 1024 * q'.val + 128 * k'.val ∨ 1024 * q'.val + 128 * k'.val + 128 ≤ 1024 * q.val + 128 * k.val
  have := k.isLt; have := k'.isLt
  by_cases e : q.val = q'.val
  · have : k.val ≠ k'.val := fun e' => h (Prod.ext (Fin.ext e) (Fin.ext e'))
    omega
  · omega
/-- the quarter, the chunk and the row in it of a row of the result. -/
def rowQ (i : S4096x4096.Idx) : Fin 4 := ⟨(i (0 : Fin 2)).val / 1024, by have : (i (0 : Fin 2)).val < 4096 := (i (0 : Fin 2)).isLt; omega⟩
def rowK (i : S4096x4096.Idx) : Fin 8 := ⟨(i (0 : Fin 2)).val % 1024 / 128, by omega⟩
def rowI (i : S4096x4096.Idx) : S128x4096.Idx :=
  fun a => match a with
    | ⟨0, _⟩ => (⟨(i (0 : Fin 2)).val % 128, Nat.mod_lt _ (by decide)⟩ : Fin 128)
    | ⟨1, _⟩ => (i (1 : Fin 2) : Fin 4096)
theorem coverO : (Finset.univ : Finset (Fin 4 × Fin 8)).biUnion (fun t => (rectT t).set) = Finset.univ := by
  refine Finset.eq_univ_of_forall fun i => Finset.mem_biUnion.mpr ⟨(rowQ i, rowK i), Finset.mem_univ _, Rect.mem_set_unit.mpr fun a => ?_⟩
  fin_cases a
  · show 1024 * ((i (0 : Fin 2)).val / 1024) + 128 * ((i (0 : Fin 2)).val % 1024 / 128) ≤ (i (0 : Fin 2)).val
      ∧ (i (0 : Fin 2)).val < 1024 * ((i (0 : Fin 2)).val / 1024) + 128 * ((i (0 : Fin 2)).val % 1024 / 128) + 128
    omega
  · exact ⟨Nat.zero_le _, (i (1 : Fin 2)).isLt.trans_eq (Nat.zero_add _).symm⟩

/-- What the result array of device `d` holds at the end. -/
def outV (d : Dev nD) : S4096x4096.Idx → Elt F .bf16 := fun i => rowV m d (rowQ i) (rowK i) (rowI i)

theorem outV_chunk (d : Dev nD) (q : Fin 4) (k : Fin 8) : (fun j => outV m d ((rectO q k).emb j)) = rowV m d q k := by
  funext j
  have h0 : (((rectO q k).emb j (0 : Fin 2)).val) = 1024 * q.val + 128 * k.val + (j (0 : Fin 2)).val := by
    show 1024 * q.val + 128 * k.val + 1 * (j (0 : Fin 2)).val = _; omega
  have h1 : (((rectO q k).emb j (1 : Fin 2)).val) = (j (1 : Fin 2)).val := by
    show 0 + 1 * (j (1 : Fin 2)).val = _; omega
  have hj : (j (0 : Fin 2)).val < 128 := (j (0 : Fin 2)).isLt
  have hk := k.isLt
  have e1 : rowQ ((rectO q k).emb j) = q := Fin.ext (by show _ / 1024 = _; rw [h0]; omega)
  have e2 : rowK ((rectO q k).emb j) = k := Fin.ext (by show _ % 1024 / 128 = _; rw [h0]; omega)
  have e3 : rowI ((rectO q k).emb j) = j := by
    funext a; refine Fin.ext ?_
    fin_cases a
    · show ((rectO q k).emb j (0 : Fin 2)).val % 128 = (j (0 : Fin 2)).val; rw [h0]; omega
    · exact h1
  show rowV m d (rowQ _) (rowK _) (rowI _) = _
  rw [e1, e2, e3]

/-- The four quarters, named from device `d`. -/
theorem big_quarters (d : Dev nD) (Φ : Fin 4 → sProp 𝕄) :
    bigSep Finset.univ Φ = iprop(Φ (qd d) ∗ Φ (qy d) ∗ Φ (qz d) ∗ Φ (qf d)) :=
  bigSep_univ_eq_bigSepL [qd d, qy d, qz d, qf d] (by revert d; decide) (by revert d; decide) Φ

/-- The result array, whole, from its chunks. -/
theorem out_join (d : Dev nD) :
    (bigSep Finset.univ fun q : Fin 4 => bigSep Finset.univ fun k : Fin 8 => owns (d : Thread nD τ) (oC q k) fullShare (rowV m d q k))
      ⊢ (owns (d : Thread nD τ) oM fullShare (outV m d) : sProp 𝕄) := by
  refine Idealize.SL.BI.BIBase.Entails.trans (Entails.of_eq ?_) (owns_of_rects (d : Thread nD τ) oM fullShare rectT (fun _ _ => rfl) apartO coverO (outV m d))
  rw [bigSep_univ_prod]
  refine bigSep_congr fun q _ => bigSep_congr fun k _ => ?_
  exact congrArg (owns (d : Thread nD τ) (oC q k) fullShare) (outV_chunk m d q k).symm
theorem out_split (d : Dev nD) :
    (some_ d oM : sProp 𝕄) ⊢ bigSep Finset.univ fun q : Fin 4 => bigSep Finset.univ fun k : Fin 8 => some_ d (oC q k) :=
  (some_parts d oM rectT (fun _ _ => rfl) apartO coverO).trans (Entails.of_eq (bigSep_univ_prod _))

/-! ## From the end of the body -/

theorem done_rest (d : Dev nD) (i : Fin 4) :
    (iprop(done1 m d (.inl (ev i, 3)) ∗ done1 m d (.inl (od i, 5))) : sProp 𝕄)
      = iprop((pos d (.yr (ev i)) 1 ∗ owns (d : Thread nD τ) (oC (qy d) (ev i)) fullShare (rowV m d (qy d) (ev i)))
        ∗ (pos d (.zr (od i)) 1 ∗ owns (d : Thread nD τ) (oC (qz d) (od i)) fullShare (rowV m d (qz d) (od i)))) := rfl
theorem done_fwd (d : Dev nD) (i : Fin 4) :
    (iprop(done1 m d (.inr (.inl (i, 0))) ∗ done1 m d (.inr (.inl (i, 2))) ∗ done1 m d (.inr (.inl (i, 1))) ∗ done1 m d (.inr (.inl (i, 3)))) : sProp 𝕄)
      = iprop((pos d (.fys i) 1 ∗ owns (d : Thread nD τ) (oC (qz d) (ev i)) fullShare (rowV m d (qz d) (ev i)))
        ∗ (pos d (.fzs i) 1 ∗ owns (d : Thread nD τ) (oC (qy d) (od i)) fullShare (rowV m d (qy d) (od i)))
        ∗ (pos d (.fyr i) 1 ∗ owns (d : Thread nD τ) (oC (qf d) (ev i)) fullShare (rowV m d (qf d) (ev i)))
        ∗ (pos d (.fzr i) 1 ∗ owns (d : Thread nD τ) (oC (qf d) (od i)) fullShare (rowV m d (qf d) (od i)))) := rfl
/-- A quarter from its even and its odd chunks. -/
theorem quarter_join (d : Dev nD) (q : Fin 4) :
    iprop((bigSep Finset.univ fun i : Fin 4 => owns (d : Thread nD τ) (oC q (ev i)) fullShare (rowV m d q (ev i)))
        ∗ (bigSep Finset.univ fun i : Fin 4 => owns (d : Thread nD τ) (oC q (od i)) fullShare (rowV m d q (od i))))
      ⊢ (bigSep Finset.univ fun k : Fin 8 => owns (d : Thread nD τ) (oC q k) fullShare (rowV m d q k) : sProp 𝕄) :=
  Entails.of_eq (by rw [big_pairs, bigSep_sep'])

/-- The end of the body: the arguments as they were, every counter at zero, the scratch, and the result array whole. -/
theorem finish (d : Dev nD) :
    iprop(recs m ∗ bodyDone m d)
      ⊢ (|={Set.univ}=> iprop((aPts m d ∗ gPts m d) ∗ (bigSep Finset.univ fun k : CK => semVal (cell d k) 0)
          ∗ (some_ d xsM ∗ some_ d xrM ∗ some_ d afM ∗ some_ d obM) ∗ owns (d : Thread nD τ) oM fullShare (outV m d)) : sProp 𝕄) := by
  unfold bodyDone
  simp only [done_rest, done_fwd, drained, readDone, slotLd, slotOb, bigSep_sep']
  iintro ⟨#Hrec, ⟨Ha, Hg⟩, Hbar, ⟨⟨Hl0, -, Haf0⟩, ⟨Hl1, -, Haf1⟩, ⟨Ho0, -, Hob0⟩, ⟨Ho1, -, Hob1⟩⟩, ⟨Hxr, Hxrm⟩, ⟨Hys, Hzs, Hq⟩, Hzre, Hyro,
    ⟨⟨Hyre, Hye⟩, ⟨Hzro, Hzo⟩⟩, Hx, ⟨⟨Hfys, Hze⟩, ⟨Hfzs, Hyo⟩, ⟨Hfyr, Hfe⟩, ⟨Hfzr, Hfo⟩⟩⟩
  icases Hx with ⟨Hxs, Hxp⟩
  ihave Hxsm := (show (bigSep Finset.univ fun c : Fin 8 => pay m d 0 0 (.inr (.inl (c, 0)))) ⊢ (bigSep Finset.univ fun c : Fin 8 => some_ d (xsAt c) : sProp 𝕄) from
    bigSep_mono fun c _ => some_intro d (xsAt c) (xV m d c)) $$ Hxp
  imod (close_all m d) $$ [Hbar Hl0 Hl1 Ho0 Ho1 Hxr Hxs Hys Hzs Hyre Hyro Hzre Hzro Hfys Hfzs Hfyr Hfzr] with Hsem
  · isplitr; · iexact Hrec
    iapply (Entails.of_eq (big_cells fun k => pos d k (rounds k)).symm)
    isplitl [Hbar]; · iexact Hbar
    isplitl [Hxr Hxs Hys Hzs Hyre Hyro Hzre Hzro]
    · isplitl [Hxs]; · iexact Hxs
      isplitl [Hxr]; · iexact Hxr
      isplitl [Hys]; · iexact Hys
      isplitl [Hyre Hyro]
      · iapply (Entails.of_eq ((big_pairs fun c => pos d (.yr c) 1).trans (bigSep_sep' Finset.univ (fun i : Fin 4 => pos d (.yr (ev i)) 1) fun i => pos d (.yr (od i)) 1)).symm)
        isplitl [Hyre]; · iexact Hyre
        iexact Hyro
      isplitl [Hzs]; · iexact Hzs
      iapply (Entails.of_eq ((big_pairs fun c => pos d (.zr c) 1).trans (bigSep_sep' Finset.univ (fun i : Fin 4 => pos d (.zr (ev i)) 1) fun i => pos d (.zr (od i)) 1)).symm)
      isplitl [Hzre]; · iexact Hzre
      iexact Hzro
    isplitl [Hfys Hfzs Hfyr Hfzr]
    · isplitl [Hfys]; · iexact Hfys
      isplitl [Hfyr]; · iexact Hfyr
      isplitl [Hfzs]; · iexact Hfzs
      iexact Hfzr
    isplitl [Hl0 Hl1]
    · isplitl [Hl0]; · iexact Hl0
      iexact Hl1
    isplitl [Ho0]; · iexact Ho0
    iexact Ho1
  imodintro
  isplitl [Ha Hg]
  · isplitl [Ha]; · iexact Ha
    iexact Hg
  isplitl [Hsem]; · iexact Hsem
  isplitl [Hxsm Hxrm Haf0 Haf1 Hob0 Hob1]
  · isplitl [Hxsm]; · iapply (some_of_parts d xsM rect8 (fun _ _ => rfl) apart8 cover8); iexact Hxsm
    isplitl [Hxrm]; · iapply (some_of_parts d xrM rect8 (fun _ _ => rfl) apart8 cover8); iexact Hxrm
    isplitl [Haf0 Haf1]
    · iapply (some_of_parts d afM rect2 (fun _ _ => rfl) apart2 cover2)
      iapply (Entails.of_eq (bigSep_univ_two fun s => some_ d (afAt s)).symm)
      isplitl [Haf0]; · iexact Haf0
      iexact Haf1
    iapply (some_of_parts d obM rect2 (fun _ _ => rfl) apart2 cover2)
    iapply (Entails.of_eq (bigSep_univ_two fun s => some_ d (obAt s)).symm)
    isplitl [Hob0]; · iexact Hob0
    iexact Hob1
  iapply (out_join m d)
  iapply (Entails.of_eq (big_quarters d fun q => bigSep Finset.univ fun k : Fin 8 => owns (d : Thread nD τ) (oC q k) fullShare (rowV m d q k)).symm)
  isplitl [Hq]; · iexact Hq
  isplitl [Hye Hyo]
  · iapply (quarter_join m d (qy d))
    isplitl [Hye]; · iexact Hye
    iexact Hyo
  isplitl [Hze Hzo]
  · iapply (quarter_join m d (qz d))
    isplitl [Hze]; · iexact Hze
    iexact Hzo
  iapply (quarter_join m d (qf d))
  isplitl [Hfe]; · iexact Hfe
  iexact Hfo

end Cert.KernelIdeal.Talk
-- ==== Proof.KernelIdeal.Ghost.lean ====
module

public import proofs.«01_k».proof.Proof.KernelIdeal.Ends

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## Ghost state at launch -/

/-- The cells of the machine. -/
def cells : Finset (GSem nD τ sig) := Finset.univ.map ⟨fun dk : Dev nD × CK => cell dk.1 dk.2, cell_injective⟩
/-- A token for each cell, each of eight rounds, each of three duties; only some are ever spent. -/
def tokOf (x : (Dev nD × CK) × (Fin 8 × Fin 3)) : GSem nD τ sig × ℕ × Du := (cell x.1.1 x.1.2, x.2.1.val, x.2.2)
theorem tokOf_injective : Function.Injective tokOf := by
  rintro ⟨a, r, u⟩ ⟨a', r', u'⟩ h
  have h1 : a = a' := cell_injective (congrArg Prod.fst h)
  have h2 : r = r' := Fin.ext (congrArg (fun y : GSem nD τ sig × ℕ × Du => y.2.1) h)
  have h3 : u = u' := congrArg (fun y : GSem nD τ sig × ℕ × Du => y.2.2) h
  rw [h1, h2, h3]
def tokens : Finset (GSem nD τ sig × ℕ × Du) := Finset.univ.map ⟨tokOf, tokOf_injective⟩

/-- The element of the ghost algebra at launch. -/
def u₀ : UU := (initOf (Pipeline.cells cfgs cellOf_inj) (Pipeline.launchToks cfgs cellOf_inj), initOf cells tokens)

/-- What it holds for a device. -/
def G (d : Dev nD) : sProp 𝕄 :=
  iprop((bigSep Finset.univ fun k : CK => roundState ER (Rd m) (cell d k) 0) ∗ (bigSep Finset.univ fun k : CK => rch d k 0)
    ∗ (bigSep Finset.univ fun k : CK => pos d k 0)
    ∗ (bigSep Finset.univ fun k : CK => bigSep Finset.univ fun r : Fin 8 => bigSep Finset.univ fun u : Fin 3 => tok d k r.val u))

theorem fund_cells : BI.own (ER (initOf cells tokens)) ⊢ (|==> bigSep Finset.univ (G m) : sProp 𝕄) := by
  have hX (Φ : GSem nD τ sig → sProp 𝕄) : bigSep cells Φ = bigSep Finset.univ fun d : Dev nD => bigSep Finset.univ fun k : CK => Φ (cell d k) := by
    unfold cells; rw [bigSep_map, bigSep_univ_prod]; rfl
  have hT : bigSep tokens (fun x => (dutyTok ER x.1 x.2.1 x.2.2 : sProp 𝕄))
      = bigSep Finset.univ fun d : Dev nD => bigSep Finset.univ fun k : CK => bigSep Finset.univ fun r : Fin 8 => bigSep Finset.univ fun u : Fin 3 => tok d k r.val u := by
    unfold tokens; rw [bigSep_map, bigSep_univ_prod, bigSep_univ_prod]
    refine bigSep_congr fun d _ => bigSep_congr fun k _ => ?_
    rw [bigSep_univ_prod]; rfl
  iintro HX
  imod (Rounds.fund ER (Rd m) cells tokens) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; rw [bigSep_sep', bigSep_sep', bigSep_sep']
  isplitl [Hst]; · iexact Hst
  isplitl [Hr]; · iexact Hr
  isplitl [Hat]; · iexact Hat
  iexact Htok

/-! ## The counters at launch -/

/-- The kernel's own semaphores. -/
abbrev osem : SK → SemLoc sig := fun k => .dma (dsem k)

theorem unscoped_eq (d : Dev nD) : (unscopedSems0 d : sProp 𝕄) = semVal (cell d .bar) 0 := by
  unfold unscopedSems0; rw [bigSep_eq_bigSepL_of_eq [semL .bar] (by decide) (by decide)]; rfl

theorem counters (d : Dev nD) :
    (bigSep Finset.univ fun k : CK => semVal (cell d k) 0 : sProp 𝕄)
      = iprop(unscopedSems0 d ∗ Pipeline.ownSems0 (Ix := Unit) (Name := ℕ) (U := UU) (Lvl := ℕ) (Val := Elt F) (τ := τ) osem d) := by
  rw [bigSep_univ_sum, unscoped_eq]
  rw [show (bigSep (Finset.univ : Finset Unit) fun a => (semVal (cell d (.inl a)) 0 : sProp 𝕄)) = semVal (cell d .bar) 0 from
    bigSep_univ_eq_bigSepL [()] (by decide) (by decide) (fun a : Unit => (semVal (cell d (.inl a)) 0 : sProp 𝕄))]
  rfl

/-! ## Tokens, from the cells to their payers -/

/-- The tokens of a cell that are spent. -/
def kindToks (d : Dev nD) : CK → sProp 𝕄
  | .inl _ => iprop(tok d .bar 0 0 ∗ tok d .bar 0 1 ∗ tok d .bar 0 2)
  | .inr (.inl kj) => tok d (.inr (.inl kj)) 0 0
  | .inr (.inr (.inl ij)) => tok d (.inr (.inr (.inl ij))) 0 0
  | .inr (.inr (.inr sj)) => bigSep Finset.univ fun r : Fin 8 => tok d (.inr (.inr (.inr sj))) r.val 0

theorem kind_toks (d : Dev nD) (k : CK) :
    (bigSep Finset.univ fun r : Fin 8 => bigSep Finset.univ fun u : Fin 3 => tok d k r.val u) ⊢ (kindToks d k : sProp 𝕄) := by
  have h0 : (bigSep Finset.univ fun r : Fin 8 => bigSep Finset.univ fun u : Fin 3 => tok d k r.val u) ⊢ (tok d k 0 0 : sProp 𝕄) :=
    (bigSep_elim (Finset.mem_univ (0 : Fin 8))).trans (bigSep_elim (Finset.mem_univ (0 : Fin 3)))
  match k with
  | .inl () =>
    refine (bigSep_elim (Finset.mem_univ (0 : Fin 8))).trans ?_
    exact Entails.of_eq (bigSep_univ_eq_bigSepL [0, 1, 2] (by decide) (by decide) (fun u : Fin 3 => (tok d .bar 0 u : sProp 𝕄)))
  | .inr (.inl kj) => exact h0
  | .inr (.inr (.inl ij)) => exact h0
  | .inr (.inr (.inr sj)) => exact bigSep_mono fun r _ => bigSep_elim (Finset.mem_univ (0 : Fin 3))

/-- The tokens that device `d` spends. -/
def payToks (d : Dev nD) : sProp 𝕄 :=
  iprop((tok (xp d) .bar 0 0 ∗ tok (yp d) .bar 0 1 ∗ tok (zp d) .bar 0 2)
    ∗ ((bigSep Finset.univ fun c : Fin 8 => tok d (.xs c) 0 0) ∗ (bigSep Finset.univ fun c : Fin 8 => tok (xp d) (.xr c) 0 0)
      ∗ (bigSep Finset.univ fun c : Fin 8 => tok d (.ys c) 0 0) ∗ (bigSep Finset.univ fun c : Fin 8 => tok (yp d) (.yr c) 0 0)
      ∗ (bigSep Finset.univ fun c : Fin 8 => tok d (.zs c) 0 0) ∗ (bigSep Finset.univ fun c : Fin 8 => tok (zp d) (.zr c) 0 0))
    ∗ ((bigSep Finset.univ fun i : Fin 4 => tok d (.fys i) 0 0) ∗ (bigSep Finset.univ fun i : Fin 4 => tok (yp d) (.fyr i) 0 0)
      ∗ (bigSep Finset.univ fun i : Fin 4 => tok d (.fzs i) 0 0) ∗ (bigSep Finset.univ fun i : Fin 4 => tok (zp d) (.fzr i) 0 0))
    ∗ ((bigSep Finset.univ fun r : Fin 8 => tok d (.ld 0) r.val 0) ∗ (bigSep Finset.univ fun r : Fin 8 => tok d (.ld 1) r.val 0))
    ∗ ((bigSep Finset.univ fun r : Fin 8 => tok d (.od 0) r.val 0) ∗ (bigSep Finset.univ fun r : Fin 8 => tok d (.od 1) r.val 0)))

theorem around (p : Du) (Φ : Dev nD → sProp 𝕄) : bigSep Finset.univ Φ = bigSep Finset.univ fun d => Φ (peer p d) :=
  bigSep_univ_equiv (swap p) Φ

theorem deal_toks :
    (bigSep Finset.univ fun d : Dev nD => bigSep Finset.univ fun k : CK => bigSep Finset.univ fun r : Fin 8 => bigSep Finset.univ fun u : Fin 3 => tok d k r.val u)
      ⊢ (bigSep Finset.univ fun d : Dev nD => payToks d : sProp 𝕄) := by
  refine Idealize.SL.BI.BIBase.Entails.trans (bigSep_mono fun d _ => (bigSep_mono fun k _ => kind_toks d k).trans (Entails.of_eq (big_cells (kindToks d)))) ?_
  refine Entails.of_eq ?_
  unfold payToks
  simp only [kindToks]
  simp only [bigSep_sep']
  rw [around 0 (fun d => tok d .bar 0 0), around 1 (fun d => tok d .bar 0 1), around 2 (fun d => tok d .bar 0 2),
    around 0 (fun d => bigSep Finset.univ fun c : Fin 8 => tok d (.xr c) 0 0), around 1 (fun d => bigSep Finset.univ fun c : Fin 8 => tok d (.yr c) 0 0),
    around 2 (fun d => bigSep Finset.univ fun c : Fin 8 => tok d (.zr c) 0 0),
    around 1 (fun d => bigSep Finset.univ fun i : Fin 4 => tok d (.fyr i) 0 0), around 2 (fun d => bigSep Finset.univ fun i : Fin 4 => tok d (.fzr i) 0 0)]
  rfl

/-! ## All devices at once -/

/-- The invariants and the rounds reached, of every cell. -/
def marks : sProp 𝕄 :=
  iprop((∃ κ : Dev nD × CK → ℕ, bigSep Finset.univ fun dk : Dev nD × CK => cellInv ER (Rd m) (κ dk) (cell dk.1 dk.2))
    ∗ (bigSep Finset.univ fun dk : Dev nD × CK => reached ER (cell dk.1 dk.2) 0))
instance marks_persistent : BI.Persistent (marks (F := F) m) := by unfold marks; infer_instance

/-- What a device gets. -/
def G' (d : Dev nD) : sProp 𝕄 := iprop(marks m ∗ (bigSep Finset.univ fun k : CK => pos d k 0) ∗ payToks d)

theorem alloc_cells (d : Dev nD) :
    iprop((bigSep Finset.univ fun k : CK => semVal (cell d k) 0) ∗ bigSep Finset.univ fun k : CK => roundState ER (Rd m) (cell d k) 0)
      ⊢ (|={Set.univ}=> bigSep Finset.univ fun k : CK => iprop(∃ κ : ℕ, cellInv ER (Rd m) κ (cell d k)) : sProp 𝕄) := by
  rw [← bigSep_sep']
  exact (bigSep_mono fun k _ => (Rounds.body_intro ER (Rd m) (cell d k)).trans inv_alloc).trans (bigSep_fupd _ _)

theorem glob :
    (bigSep Finset.univ fun d => iprop(Pipeline.ownSems0 (Ix := Unit) (Name := ℕ) (U := UU) (Lvl := ℕ) (Val := Elt F) (τ := τ) osem d ∗ unscopedSems0 d ∗ G m d) : sProp 𝕄)
      ⊢ |={Set.univ}=> bigSep Finset.univ (G' m) := by
  unfold G
  rw [bigSep_sep', bigSep_sep', bigSep_sep', bigSep_sep', bigSep_sep']
  iintro ⟨Hos, Hus, Hst, Hr, Hat, Htok⟩
  imod (show iprop((bigSep Finset.univ fun d : Dev nD => unscopedSems0 d)
        ∗ (bigSep Finset.univ fun d : Dev nD => Pipeline.ownSems0 (Ix := Unit) (Name := ℕ) (U := UU) (Lvl := ℕ) (Val := Elt F) (τ := τ) osem d)
        ∗ (bigSep Finset.univ fun d : Dev nD => bigSep Finset.univ fun k : CK => roundState ER (Rd m) (cell d k) 0))
      ⊢ (|={Set.univ}=> bigSep Finset.univ fun d : Dev nD => bigSep Finset.univ fun k : CK => iprop(∃ κ : ℕ, cellInv ER (Rd m) κ (cell d k)) : sProp 𝕄) from by
        rw [← bigSep_sep', ← bigSep_sep']
        refine (bigSep_mono fun d _ => ?_).trans (bigSep_fupd _ _)
        refine Idealize.SL.BI.BIBase.Entails.trans ?_ (alloc_cells m d)
        rw [counters d]
        iintro ⟨H1, H2, H3⟩
        isplitl [H1 H2]
        · isplitl [H1]; · iexact H1
          iexact H2
        iexact H3) $$ [Hus Hos Hst] with HI
  · isplitl [Hus]; · iexact Hus
    isplitl [Hos]; · iexact Hos
    iexact Hst
  imodintro
  ihave HI := (Entails.of_eq (bigSep_univ_prod (fun dk : Dev nD × CK => (iprop(∃ κ : ℕ, cellInv ER (Rd m) κ (cell dk.1 dk.2)) : sProp 𝕄))).symm) $$ HI
  ihave HI := (BI.bigSep_exists_pi Finset.univ (fun (dk : Dev nD × CK) (κ : ℕ) => (cellInv ER (Rd m) κ (cell dk.1 dk.2) : sProp 𝕄))) $$ HI
  ihave Hr := (Entails.of_eq (show (bigSep Finset.univ fun d : Dev nD => bigSep Finset.univ fun k : CK => rch d k 0)
      = (bigSep Finset.univ fun dk : Dev nD × CK => reached ER (cell dk.1 dk.2) 0 : sProp 𝕄) from
    (bigSep_univ_prod (fun dk : Dev nD × CK => (reached ER (cell dk.1 dk.2) 0 : sProp 𝕄))).symm)) $$ Hr
  ihave Htok := deal_toks $$ Htok
  iapply (big_persistent (R := marks m) (Φ := fun d => iprop((bigSep Finset.univ fun k : CK => pos d k 0) ∗ payToks d)) fun d _ => BI.BIBase.Entails.rfl)
  isplitl [HI Hr]
  · unfold marks
    isplitl [HI]; · iexact HI
    iexact Hr
  iapply (Entails.of_eq (bigSep_sep' Finset.univ (fun d : Dev nD => bigSep Finset.univ fun k : CK => pos d k 0) payToks).symm)
  isplitl [Hat]; · iexact Hat
  iexact Htok

/-! ## The credits at launch -/

/-- What a device is owed. -/
def credits (d : Dev nD) : sProp 𝕄 :=
  iprop(cred (tallyAt (cell d .bar) () 3) ∗ (bigSep Finset.univ fun c : Fin 8 => crd d (.xr c)) ∗ (bigSep Finset.univ fun c : Fin 8 => crd d (.yr c))
    ∗ (bigSep Finset.univ fun c : Fin 8 => crd d (.zr c)) ∗ (bigSep Finset.univ fun i : Fin 4 => crd d (.fyr i)) ∗ (bigSep Finset.univ fun i : Fin 4 => crd d (.fzr i)))

theorem many_cons (k : CK) (l : List CK) (Φ : CK → sProp 𝕄) :
    bigSepM ((k :: l : List CK) : Multiset CK) Φ = iprop(Φ k ∗ bigSepM (l : Multiset CK) Φ) := bigSepM_cons k (l : Multiset CK) Φ
theorem many_append (l l' : List CK) (Φ : CK → sProp 𝕄) :
    bigSepM ((l ++ l' : List CK) : Multiset CK) Φ = iprop(bigSepM (l : Multiset CK) Φ ∗ bigSepM (l' : Multiset CK) Φ) :=
  bigSepM_add (l : Multiset CK) (l' : Multiset CK) Φ

theorem launch_list (d : Dev nD) : ∀ l : List (Du × CK),
    (Pipeline.launchCred (fun c => (l.map (due c)).sum) d : sProp 𝕄) ⊢ bigSepM ((l.map Prod.snd : List CK) : Multiset CK) fun k => crd d k
  | [] => by
    rw [show (fun c => (([] : List (Du × CK)).map (due c)).sum) = (fun _ => 0 : Dev nD → CellTallies nD τ sig Unit) from rfl, Pipeline.launchCred_zero]
    exact BI.BIBase.Entails.rfl
  | e :: l => by
    rw [show (fun c => ((e :: l).map (due c)).sum) = (fun c => due c e + (l.map (due c)).sum) from rfl, Pipeline.launchCred_add, List.map_cons, many_cons]
    iintro ⟨H1, H2⟩
    isplitl [H1]
    · iapply (show (Pipeline.launchCred (fun c => due c e) d : sProp 𝕄) ⊢ crd d e.2 from
        Pipeline.launchCred_tallyAt (semL e.2) (peer e.1) (peer e.1) (peer_peer e.1) (peer_peer e.1) () (amt e.2) d)
      iexact H1
    iapply (launch_list d l); iexact H2

/-- The same, kind by kind. -/
def duesK : List CK :=
  [.bar, .bar, .bar] ++ ((List.finRange 8).map .xr ++ ((List.finRange 8).map .yr ++ ((List.finRange 8).map .zr ++ ((List.finRange 4).map .fyr ++ (List.finRange 4).map .fzr))))
theorem duesK_perm : (dues.map Prod.snd).Perm duesK := by decide +kernel

theorem bigM_univ {k : ℕ} (f : Fin k → CK) (Φ : CK → sProp 𝕄) :
    bigSepM (((List.finRange k).map f : List CK) : Multiset CK) Φ = bigSep Finset.univ fun c => Φ (f c) := by
  show Multiset.fold _ _ (Multiset.map Φ (((List.finRange k).map f : List CK) : Multiset CK)) = Multiset.fold _ _ (Multiset.map (fun c => Φ (f c)) Finset.univ.val)
  rw [← Multiset.map_coe, Multiset.map_map]
  rfl

theorem launch_credits (d : Dev nD) : (Pipeline.launchCred (fun c => owed c 0) d : sProp 𝕄) ⊢ credits d := by
  refine (launch_list d dues).trans ?_
  rw [Multiset.coe_eq_coe.mpr duesK_perm]
  unfold duesK credits
  simp only [many_append, bigM_univ]
  rw [many_cons, many_cons, many_cons]
  have hb : (crd d .bar : sProp 𝕄) = cred (tallyAt (cell d .bar) () 1) := rfl
  rw [hb]
  iintro ⟨⟨H1, H2, H3, -⟩, H⟩
  isplitl [H1 H2 H3]
  · iapply (Entails.of_eq (show (cred (tallyAt (cell d .bar) () 1 + (tallyAt (cell d .bar) () 1 + tallyAt (cell d .bar) () 1)) : sProp 𝕄)
      = cred (tallyAt (cell d .bar) () 3) from congrArg cred (by rw [tallyAt_add, tallyAt_add])))
    iapply (cred_add _ _).2
    isplitl [H1]; · iexact H1
    iapply (cred_add _ _).2
    isplitl [H2]; · iexact H2
    iexact H3
  iexact H

end Cert.KernelIdeal.Talk
-- ==== Proof.KernelIdeal.Deal.lean ====
module

public import proofs.«01_k».proof.Proof.KernelIdeal.Ghost

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

variable {F : FTy → Type} [FloatOps F]

local notation "𝕄" => MT nD τ sig Unit (Elt F) ℕ UU ℕ

variable (m : (ℓ : Loc nD τ sig) → Buf (Elt F) ℓ) (ρ : Dev nD → PrngReg)

/-! ## From the launch to the body -/

/-- What a device starts with, its scratch and its staged weights apart. -/
def start (d : Dev nD) : sProp 𝕄 :=
  iprop(recs m ∗ (bigSep Finset.univ fun k : CK => pos d k 0) ∗ payToks d ∗ credits d ∗ aPts m d ∗ some_ d oM)
/-- The scratch. -/
def scratch (d : Dev nD) : sProp 𝕄 := iprop(some_ d xsM ∗ some_ d xrM ∗ some_ d afM ∗ some_ d obM)

theorem join2 {I : Type} [DecidableEq I] (S : Finset I) (Φ Ψ : I → sProp 𝕄) :
    iprop(bigSep S Φ ∗ bigSep S Ψ) ⊢ bigSep S fun i => iprop(Φ i ∗ Ψ i) := Entails.of_eq (bigSep_sep' S Φ Ψ).symm
theorem join3 {I : Type} [DecidableEq I] (S : Finset I) (Φ Ψ Χ : I → sProp 𝕄) :
    iprop(bigSep S Φ ∗ bigSep S Ψ ∗ bigSep S Χ) ⊢ bigSep S fun i => iprop(Φ i ∗ Ψ i ∗ Χ i) := by
  rw [← bigSep_sep', ← bigSep_sep']
theorem join4 {I : Type} [DecidableEq I] (S : Finset I) (Φ Ψ Χ Ω : I → sProp 𝕄) :
    iprop(bigSep S Φ ∗ bigSep S Ψ ∗ bigSep S Χ ∗ bigSep S Ω) ⊢ bigSep S fun i => iprop(Φ i ∗ Ψ i ∗ Χ i ∗ Ω i) := by
  rw [← bigSep_sep', ← bigSep_sep', ← bigSep_sep']

theorem pairs_split (Φ : Fin 8 → sProp 𝕄) :
    bigSep Finset.univ Φ = iprop((bigSep Finset.univ fun i : Fin 4 => Φ (ev i)) ∗ (bigSep Finset.univ fun i : Fin 4 => Φ (od i))) := by
  rw [big_pairs Φ]; exact bigSep_sep' Finset.univ (fun i : Fin 4 => Φ (ev i)) (fun i : Fin 4 => Φ (od i))

theorem halves (Φ : ℕ → sProp 𝕄) :
    (bigSep Finset.univ fun r : Fin 8 => Φ r.val)
      = iprop((bigSep Finset.univ fun i : Fin 4 => Φ i.val) ∗ (bigSep Finset.univ fun i : Fin 4 => Φ (4 + i.val))) := by
  rw [bigSep_univ_equiv (finSumFinEquiv (m := 4) (n := 4)) (fun r : Fin 8 => Φ r.val), bigSep_univ_sum]
  rfl

theorem by_chunk (Φ : Fin 2 → ℕ → sProp 𝕄) (b : ℕ) :
    (bigSep Finset.univ fun c : Fin 8 => Φ (slot c) (b + c.val / 2))
      = iprop((bigSep Finset.univ fun i : Fin 4 => Φ 0 (b + i.val)) ∗ (bigSep Finset.univ fun i : Fin 4 => Φ 1 (b + i.val))) := by
  rw [pairs_split]
  have h (i : Fin 4) : slot (ev i) = 0 ∧ (ev i).val / 2 = i.val ∧ slot (od i) = 1 ∧ (od i).val / 2 = i.val := by revert i; decide
  simp only [(h _).1, (h _).2.1, (h _).2.2.1, (h _).2.2.2]

/-- The rounds of the two slots, by the chunks that fill them. -/
theorem slot_toks (Φ : Fin 2 → ℕ → sProp 𝕄) :
    iprop((bigSep Finset.univ fun r : Fin 8 => Φ 0 r.val) ∗ (bigSep Finset.univ fun r : Fin 8 => Φ 1 r.val))
      ⊢ iprop((bigSep Finset.univ fun c : Fin 8 => Φ (slot c) (c.val / 2)) ∗ (bigSep Finset.univ fun c : Fin 8 => Φ (slot c) (4 + c.val / 2))) := by
  have h0 := by_chunk Φ 0
  simp only [Nat.zero_add] at h0
  rw [h0, by_chunk Φ 4, halves (Φ 0), halves (Φ 1)]
  iintro ⟨⟨H1, H2⟩, H3, H4⟩
  isplitl [H1 H3]
  · isplitl [H1]; · iexact H1
    iexact H3
  isplitl [H2]; · iexact H2
  iexact H4

theorem deal (d : Dev nD) : iprop(start m d ∗ scratch d ∗ gPts m d) ⊢ (iprop(recs m ∗ bodyRes m d) : sProp 𝕄) := by
  unfold start scratch payToks credits
  iintro ⟨⟨#HR, Hpos, Htok, Hcr, Ha, Ho⟩, ⟨Hxs, Hxr, Haf, Hob⟩, Hg⟩
  ihave Hpos := (Entails.of_eq (big_cells fun k => pos d k 0)) $$ Hpos
  icases Hpos with ⟨Pbar, Pch, Pfw, ⟨Pl0, Pl1⟩, Po0, Po1⟩
  ihave Pch := (Entails.of_eq (show _ = iprop((bigSep Finset.univ fun c : Fin 8 => pos d (.xs c) 0) ∗ (bigSep Finset.univ fun c : Fin 8 => pos d (.xr c) 0)
    ∗ (bigSep Finset.univ fun c : Fin 8 => pos d (.ys c) 0) ∗ (bigSep Finset.univ fun c : Fin 8 => pos d (.yr c) 0)
    ∗ (bigSep Finset.univ fun c : Fin 8 => pos d (.zs c) 0) ∗ (bigSep Finset.univ fun c : Fin 8 => pos d (.zr c) 0)) from by
      simp only [bigSep_sep'])) $$ Pch
  ihave Pfw := (Entails.of_eq (show _ = iprop((bigSep Finset.univ fun i : Fin 4 => pos d (.fys i) 0) ∗ (bigSep Finset.univ fun i : Fin 4 => pos d (.fyr i) 0)
    ∗ (bigSep Finset.univ fun i : Fin 4 => pos d (.fzs i) 0) ∗ (bigSep Finset.univ fun i : Fin 4 => pos d (.fzr i) 0)) from by
      simp only [bigSep_sep'])) $$ Pfw
  icases Pch with ⟨Pxs, Pxr, Pys, Pyr, Pzs, Pzr⟩
  icases Pfw with ⟨Pfys, Pfyr, Pfzs, Pfzr⟩
  icases Htok with ⟨⟨T0, T1, T2⟩, ⟨Txs, Txr, Tys, Tyr, Tzs, Tzr⟩, ⟨Tfys, Tfyr, Tfzs, Tfzr⟩, Tld, Tod⟩
  icases Hcr with ⟨Cb, Cxr, Cyr, Czr, Cfyr, Cfzr⟩
  ihave Tld := (slot_toks fun s r => tok d (.ld s) r 0) $$ Tld
  ihave Tod := (slot_toks fun s r => tok d (.od s) r 0) $$ Tod
  icases Tld with ⟨Tld, Tld'⟩
  icases Tod with ⟨Tod, -⟩
  ihave Pyr := (Entails.of_eq (pairs_split fun c => pos d (.yr c) 0)) $$ Pyr
  ihave Pzr := (Entails.of_eq (pairs_split fun c => pos d (.zr c) 0)) $$ Pzr
  ihave Cyr := (Entails.of_eq (pairs_split fun c => crd d (.yr c))) $$ Cyr
  ihave Czr := (Entails.of_eq (pairs_split fun c => crd d (.zr c))) $$ Czr
  icases Pyr with ⟨Pye, Pyo⟩
  icases Pzr with ⟨Pze, Pzo⟩
  icases Cyr with ⟨Cye, Cyo⟩
  icases Czr with ⟨Cze, Czo⟩
  ihave Hxs := (some_parts d xsM rect8 (fun _ _ => rfl) apart8 cover8) $$ Hxs
  ihave Hxr := (some_parts d xrM rect8 (fun _ _ => rfl) apart8 cover8) $$ Hxr
  ihave Haf := (some_parts d afM rect2 (fun _ _ => rfl) apart2 cover2) $$ Haf
  ihave Hob := (some_parts d obM rect2 (fun _ _ => rfl) apart2 cover2) $$ Hob
  ihave Haf := (Entails.of_eq (bigSep_univ_two fun s => some_ d (afAt s))) $$ Haf
  ihave Hob := (Entails.of_eq (bigSep_univ_two fun s => some_ d (obAt s))) $$ Hob
  icases Haf with ⟨Haf0, Haf1⟩
  icases Hob with ⟨Hob0, Hob1⟩
  ihave Ho := (out_split d) $$ Ho
  ihave Ho := (Entails.of_eq (big_quarters d fun q => bigSep Finset.univ fun k : Fin 8 => some_ d (oC q k))) $$ Ho
  icases Ho with ⟨Hq, Hy, Hz, Hf⟩
  ihave Hf := (Entails.of_eq (pairs_split fun c => some_ d (oC (qf d) c))) $$ Hf
  icases Hf with ⟨Hfe, Hfo⟩
  ihave Rl0 := (recs_rch m d (.ld 0)) $$ HR
  ihave Rl1 := (recs_rch m d (.ld 1)) $$ HR
  ihave Ro0 := (recs_rch m d (.od 0)) $$ HR
  ihave Ro1 := (recs_rch m d (.od 1)) $$ HR
  isplitr; · iexact HR
  unfold bodyRes
  isplitl [Ha Hg]
  · isplitl [Ha]; · iexact Ha
    iexact Hg
  isplitl [T0 T1 T2 Hxr Hy Hfe Hz Hfo Cb Pbar]
  · unfold enterRes
    isplitl [T0]; · iexact T0
    isplitl [T1]; · iexact T1
    isplitl [T2]; · iexact T2
    isplitl [Hxr]; · iexact Hxr
    isplitl [Hy]; · iexact Hy
    isplitl [Hfe]; · iexact Hfe
    isplitl [Hz]; · iexact Hz
    isplitl [Hfo]; · iexact Hfo
    isplitl [Cb]; · iexact Cb
    iexact Pbar
  isplitl [Pl0 Rl0 Haf0 Pl1 Rl1 Haf1 Po0 Ro0 Hob0 Po1 Ro1 Hob1]
  · unfold slotLd slotOb
    isplitl [Pl0 Rl0 Haf0]
    · isplitl [Pl0]; · iexact Pl0
      isplitl [Rl0]; · iexact Rl0
      iexact Haf0
    isplitl [Pl1 Rl1 Haf1]
    · isplitl [Pl1]; · iexact Pl1
      isplitl [Rl1]; · iexact Rl1
      iexact Haf1
    isplitl [Po0 Ro0 Hob0]
    · isplitl [Po0]; · iexact Po0
      isplitl [Ro0]; · iexact Ro0
      iexact Hob0
    isplitl [Po1]; · iexact Po1
    isplitl [Ro1]; · iexact Ro1
    iexact Hob1
  isplitl [Tld Txs Txr Hxs]
  · unfold sendOwn
    iapply (join4 Finset.univ (fun c : Fin 8 => tok d (.ld (slot c)) (c.val / 2) 0) (fun c => tok d (.xs c) 0 0) (fun c => tok (xp d) (.xr c) 0 0) (fun c => some_ d (xsAt c)))
    isplitl [Tld]; · iexact Tld
    isplitl [Txs]; · iexact Txs
    isplitl [Txr]; · iexact Txr
    iexact Hxs
  isplitl [Tld' Pxr Cxr]
  · unfold readRes
    iapply (join3 Finset.univ (fun c : Fin 8 => tok d (.ld (slot c)) (4 + c.val / 2) 0) (fun c => pos d (.xr c) 0) (fun c => crd d (.xr c)))
    isplitl [Tld']; · iexact Tld'
    isplitl [Pxr]; · iexact Pxr
    iexact Cxr
  isplitl [Tod Tys Tyr Tzs Tzr Hq Pys Pzs]
  · unfold emitOwn
    iapply (join4 Finset.univ (fun c : Fin 8 => tok d (.od (slot c)) (c.val / 2) 0) (fun c => tok d (.ys c) 0 0) (fun c => tok (yp d) (.yr c) 0 0)
      (fun c => iprop(tok d (.zs c) 0 0 ∗ tok (zp d) (.zr c) 0 0 ∗ some_ d (oC (qd d) c) ∗ pos d (.ys c) 0 ∗ pos d (.zs c) 0)))
    isplitl [Tod]; · iexact Tod
    isplitl [Tys]; · iexact Tys
    isplitl [Tyr]; · iexact Tyr
    iapply (join4 Finset.univ (fun c : Fin 8 => tok d (.zs c) 0 0) (fun c => tok (zp d) (.zr c) 0 0) (fun c => some_ d (oC (qd d) c))
      (fun c => iprop(pos d (.ys c) 0 ∗ pos d (.zs c) 0)))
    isplitl [Tzs]; · iexact Tzs
    isplitl [Tzr]; · iexact Tzr
    isplitl [Hq]; · iexact Hq
    iapply (join2 Finset.univ (fun c : Fin 8 => pos d (.ys c) 0) (fun c => pos d (.zs c) 0))
    isplitl [Pys]; · iexact Pys
    iexact Pzs
  isplitl [Pze Cze Tfys Tfyr]
  · unfold fwdYOwn
    iapply (join4 Finset.univ (fun i : Fin 4 => pos d (.zr (ev i)) 0) (fun i => crd d (.zr (ev i))) (fun i => tok d (.fys i) 0 0) (fun i => tok (yp d) (.fyr i) 0 0))
    isplitl [Pze]; · iexact Pze
    isplitl [Cze]; · iexact Cze
    isplitl [Tfys]; · iexact Tfys
    iexact Tfyr
  isplitl [Pyo Cyo Tfzs Tfzr]
  · unfold fwdZOwn
    iapply (join4 Finset.univ (fun i : Fin 4 => pos d (.yr (od i)) 0) (fun i => crd d (.yr (od i))) (fun i => tok d (.fzs i) 0 0) (fun i => tok (zp d) (.fzr i) 0 0))
    isplitl [Pyo]; · iexact Pyo
    isplitl [Cyo]; · iexact Cyo
    isplitl [Tfzs]; · iexact Tfzs
    iexact Tfzr
  isplitl [Pye Cye Pzo Czo]
  · iapply (join2 Finset.univ (fun i : Fin 4 => due1 d (.inl (ev i, 3))) (fun i => due1 d (.inl (od i, 5))))
    unfold due1
    isplitl [Pye Cye]
    · iapply (join2 Finset.univ (fun i : Fin 4 => crd d (.yr (ev i))) (fun i => pos d (.yr (ev i)) 0))
      isplitl [Cye]; · iexact Cye
      iexact Pye
    iapply (join2 Finset.univ (fun i : Fin 4 => crd d (.zr (od i))) (fun i => pos d (.zr (od i)) 0))
    isplitl [Czo]; · iexact Czo
    iexact Pzo
  isplitl [Pxs]; · iexact Pxs
  isplitl [Pfys]; · iexact Pfys
  isplitl [Pfzs]; · iexact Pfzs
  unfold due1
  isplitl [Pfyr Cfyr]
  · iapply (join2 Finset.univ (fun i : Fin 4 => crd d (.fyr i)) (fun i => pos d (.fyr i) 0))
    isplitl [Cfyr]; · iexact Cfyr
    iexact Pfyr
  iapply (join2 Finset.univ (fun i : Fin 4 => crd d (.fzr i)) (fun i => pos d (.fzr i) 0))
  isplitl [Cfzr]; · iexact Cfzr
  iexact Pfzr

end Cert.KernelIdeal.Talk
-- ==== Proof.KernelIdeal.Run.lean ====
module

public import proofs.«01_k».proof.Proof.KernelIdeal.Deal
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds PCS

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body as the launch calls it -/

/-- The kernel's own assertion before its body, -/
def Φ₀ (d : Dev nD) : sProp 𝕄 := iprop(start m d ∗ scratch d)
/-- the buffers outside every window at the end, -/
def ended (d : Dev nD) : sProp 𝕄 := iprop(aPts m d ∗ owns (d : Thread nD τ) oM fullShare (outV m d))
/-- and after it. -/
def Φ₁ (d : Dev nD) : sProp 𝕄 := iprop(ended m d ∗ (bigSep Finset.univ fun k : CK => semVal (cell d k) 0) ∗ scratch d)

/-- The pipeline's data: one point, one window, the weights. -/
def dats (_ : Fin 1) (d : Dev nD) : Dat τ (Elt F) Unit ℕ UU ℕ cfg0 d where
  A w := m ((cfg0.win w).arr.view.loc (d : Thread nD τ))
  after w _ := match w with
    | ⟨0, _⟩ => gV m d
  Φ t := match t with
    | ⟨0, _⟩ => Φ₀ m d
    | ⟨_ + 1, _⟩ => Φ₁ m d
  q _ := fullShare
  owed t := match t with
    | ⟨0, _⟩ => owed d 0
    | ⟨_ + 1, _⟩ => 0

theorem share_eq (d : Dev nD) (w : Fin cfg0.W) : (dats m 0 d).share w = fullShare := by unfold Dat.share; split <;> rfl

/-- A staged block at contents `X`. -/
abbrev stg (d : Dev nD) (X : Vec F S4096 .f32) : sProp 𝕄 :=
  iprop(∃ f : Buf (Elt F) ((d : Thread nD τ).loc cc0_stg0_0), ⌜f = X⌝ ∗ (((d : Thread nD τ).loc cc0_stg0_0) ↦{fullShare} f))

/-- What the launch gives the body, -/
def bodyPre (d : Dev nD) : sProp 𝕄 :=
  iprop(Φ₀ m d ∗ (dats m 0 d).owesAt () t0_0.castSucc ∗ (∃ v, stg d ((dats m 0 d).before (0 : Fin 1) t0_0 v)))
/-- and what it takes back. -/
def bodyPost (d : Dev nD) : sProp 𝕄 := iprop(Φ₁ m d ∗ (dats m 0 d).owesAt () t0_0.succ ∗ stg d (gV m d))

theorem run_fupd (d : Dev nD) {α : Type} (p : TP (F := F) α) (R : sProp 𝕄) :
    run d p (fun _ => iprop(|={Set.univ}=> R)) ⊢ run d p fun _ => R := wp_fupd _ _ _ _ _
theorem run_whole (d : Dev nD) (Q : PUnit → sProp 𝕄) : run d body Q = run d (steps d) Q := by
  unfold run body
  simp only [Prog.lift, Prog.bind_op, Prog.bind_ret, wp_deviceId]

/-- The kernel at device `d`, from what the launch gives it. -/
theorem run_body (d : Dev nD) : bodyPre m d ⊢ run d body fun _ => bodyPost m d := by
  rw [run_whole]
  unfold bodyPre Φ₀ Dat.owesAt Pipeline.owesWithin
  iintro ⟨⟨Hst, Hscr⟩, ⟨%W, %hW, HO⟩, ⟨%v, %f, %hf, Hg⟩⟩
  have hg : f = gV m d := by rw [hf]; unfold Dat.before; rw [if_pos (fetch0_0 t0_0)]; rfl
  subst hg
  ihave H := (deal m d) $$ [Hst Hscr Hg]
  · isplitl [Hst]; · iexact Hst
    isplitl [Hscr]; · iexact Hscr
    unfold gPts; iexact Hg
  icases H with ⟨#HR, Hres⟩
  iapply (run_fupd d (steps d) (bodyPost m d))
  iapply (run_steps m d iprop(|={Set.univ}=> bodyPost m d)) $$ [Hres HO]
  · isplitr; · iexact HR
    isplitl [Hres]; · iexact Hres
    unfold owing; iexists W; iexact HO
  iintro Ho Hd
  imod (finish m d) $$ [Hd] with ⟨⟨Ha, Hg⟩, Hsem, Hscr, Hout⟩
  · isplitr; · iexact HR
    iexact Hd
  imodintro
  unfold bodyPost Φ₁ ended scratch Dat.owesAt Pipeline.owesWithin
  isplitl [Ha Hsem Hscr Hout]
  · isplitl [Ha Hout]
    · isplitl [Ha]; · iexact Ha
      iexact Hout
    isplitl [Hsem]; · iexact Hsem
    iexact Hscr
  isplitl [Ho]
  · unfold owing
    icases Ho with ⟨%W', Ho⟩
    iexists W'
    isplitr; · ipureintro; exact fun _ _ => Or.inl trivial
    ihave Ho := (Entails.of_eq (congrArg (fun O => (owes (d : Thread nD τ) O W' : sProp 𝕄)) (owed_end d))) $$ Ho
    iexact Ho
  iexists _; isplitr; · (ipureintro; rfl)
  unfold gPts; iexact Hg

set_option maxRecDepth 100000 in
/-- The library's obligation for the body. -/
theorem body_obligation (d : Dev nD) : BodyObligation (dats (F := F) m 0 d) (defs₀ (F := F)) 𝒱₀ () Set.univ := fun t => by
  rw [fin_N0 t]
  rw [bigSep_W0, bigSep_W0]
  simp only [owns_whole_eq]
  show bodyPre m d ⊢ wp frame (wpE (defs₀ (F := F)) 𝒱₀ d none) Set.univ (bodyAt0 t0_0) (fun _ => bodyPost m d)
  rw [show (bodyAt0 t0_0 : TP (F := F) PUnit) = body from body_eq]
  exact run_body m d

/-! ## The launch -/

theorem ownSemFacts : Pipeline.OwnSemFacts cfg0.spec osem := by decide +kernel

theorem start_intro (d : Dev nD) :
    iprop(Pipeline.unscopedRestP Pipeline.Prefetch.none cfg0.spec d (fun b => m ((d : Thread nD τ).loc b)) ∗ levAts L lv
        ∗ Pipeline.launchCred (fun c => owed c 0) d ∗ prngReg d (ρ d) ∗ G' m d)
      ⊢ (|={Set.univ}=> iprop(start m d ∗ emp) : sProp 𝕄) := by
  rw [Pipeline.unscopedRestP_none, unscopedRest0_eq]
  unfold start G' marks recs
  iintro ⟨⟨Ha, Ho⟩, Hlev, Hcr, -, ⟨HI, Hr⟩, Hpos, Htok⟩
  ihave Hcr := (launch_credits (F := F) d) $$ Hcr
  imodintro
  isplitl
  · isplitl [HI Hr Hlev]
    · isplitl [HI]; · iexact HI
      isplitl [Hr]; · iexact Hr
      iexact Hlev
    isplitl [Hpos]; · iexact Hpos
    isplitl [Htok]; · iexact Htok
    isplitl [Hcr]; · iexact Hcr
    isplitl [Ha]; · unfold aPts; iexact Ha
    iapply (some_intro d oM (m ((d : Thread nD τ).loc main_v1)))
    iapply (Entails.of_eq (owns_whole (Ix := Unit) (Name := ℕ) (U := UU) (Lvl := ℕ) (d : Thread nD τ) main_v1 fullShare (m ((d : Thread nD τ).loc main_v1))).symm)
    iexact Ho
  · iempintro

/-- The scratch, as the launch holds it. -/
theorem some_whole (d : Dev nD) (b : Ref sig .tc) :
    (some_ d (Memref.whole b) : sProp 𝕄) = iprop(∃ f : Buf (Elt F) ((d : Thread nD τ).loc b), ((d : Thread nD τ).loc b) ↦{fullShare} f) := by
  unfold some_; simp only [owns_whole]

theorem scratch_eq (d : Dev nD) : (Pipeline.scopedRest spec0 d : sProp 𝕄) = scratch d := by
  unfold scratch xsM xrM afM obM
  rw [scopedRest0_eq, some_whole, some_whole, some_whole, some_whole]

theorem phi0_intro (d : Dev nD) :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, show (Pipeline.scopedRest cfg0.spec d : sProp 𝕄) = scratch d from scratch_eq d]
  unfold Φ₀
  iintro ⟨Hs, -, Hr⟩
  isplitl [Hs]; · iexact Hs
  iexact Hr

/-- What a device holds at the end. -/
def left (d : Dev nD) : sProp 𝕄 := iprop(ended m d ∗ unscopedSems0 d)

theorem phi1_exit (d : Dev nD) :
    (dats m 0 d).Φ (Fin.last cfg0.N) ⊢ iprop(left m d ∗ Pipeline.ownSems0 osem d ∗ Pipeline.scopedRest cfg0.spec d) := by
  rw [show (dats m 0 d).Φ (Fin.last cfg0.N) = Φ₁ m d from rfl, show (Pipeline.scopedRest cfg0.spec d : sProp 𝕄) = scratch d from scratch_eq d]
  unfold Φ₁ left
  iintro ⟨He, Hz, Hr⟩
  ihave Hz := (Entails.of_eq (counters d)) $$ Hz
  icases Hz with ⟨Hu, Hz⟩
  isplitl [He Hu]
  · isplitl [He]; · iexact He
    iexact Hu
  isplitl [Hz]; · iexact Hz
  iexact Hr

theorem waits (d : Dev nD) : (levAts L lv : sProp 𝕄) ⊢ Pipeline.cellsWaits cfgs (dats m) () 0 d :=
  Pipeline.cellsWaits_intro cfgs (dats m) () 0 d fun w s t => by
    have h0 : (levAts L lv : sProp 𝕄) ⊢ MayWait (d : Thread nD τ) (SemLoc.dma ((spec0 w).sem s)) () (owed d 0) :=
      Pipeline.mayWait_of_levAts (by rw [L_cell]; exact Finset.mem_singleton_self _) fun g i hg => by
        obtain ⟨e, he, rfl⟩ := sum_pos hg
        refine ⟨by rw [L_cell]; exact Finset.mem_singleton_self _, ?_⟩
        rw [show lv ((d : Thread nD τ), SemLoc.dma ((spec0 w).sem s)) () = 0 from by
            show (kind (SemLoc.dma ((spec0 w).sem s))).elim 0 lvl = 0
            rw [show kind (SemLoc.dma ((spec0 w).sem s)) = none from by
                have hw : w = (0 : Fin 1) := Subsingleton.elim (α := Fin 1) _ _
                subst hw
                have hs : s = (0 : Fin 1) := Subsingleton.elim (α := Fin 1) _ _
                subst hs
                exact dif_neg (by rintro ⟨k, hk⟩; revert hk; revert k; decide +kernel)]; rfl,
          show lv _ i = lvl e.2 from lv_cell _ _]
        exact (show ∀ e ∈ dues, 0 < lvl e.2 by decide) e he
    rcases t with ⟨_ | _, ht⟩
    · exact h0
    · show (levAts L lv : sProp 𝕄) ⊢ MayWait (d : Thread nD τ) _ () 0
      rw [MayWait_zero]; iintro -; iempintro

/-- What a final memory holds at device `d`. -/
def Left (d : Dev nD) (s : MemSt nD τ sig (Elt F)) : Prop :=
  s.mem ((d : Thread nD τ).loc main_arg0) = m ((d : Thread nD τ).loc main_arg0)
    ∧ s.mem ((d : Thread nD τ).loc main_v1) = outV m d
    ∧ ∀ sm : SemLoc sig, sm.isScoped .tc = false → s.sem ((d : Thread nD τ), sm) = 0

theorem left_read (d : Dev nD) (s' : Phys nD τ sig (Elt F)) :
    iprop(left m d ∗ emp ∗ SI s') ⊢ (|={Set.univ}=> iprop(⌜Left m d s'.mem⌝ ∗ SI s') : sProp 𝕄) := by
  unfold left ended aPts
  iintro ⟨⟨⟨Ha, Ho⟩, Hu⟩, -, HSI⟩
  ihave Ho := (Entails.of_eq (owns_whole (Ix := Unit) (Name := ℕ) (U := UU) (Lvl := ℕ) (d : Thread nD τ) main_v1 fullShare (outV m d))) $$ Ho
  icombine HSI Ha gives %ha
  icombine HSI Ho gives %ho
  imod (Pipeline.unscopedSems0_read (X := unscopedSems0 d) (c := d) fupd_intro s') $$ [Hu HSI] with ⟨%hu, HSI⟩
  · isplitl [Hu] <;> iassumption
  imodintro
  isplitr
  · ipureintro
    exact ⟨Buf.eq_of_forall_mem_univ ha, Buf.eq_of_forall_mem_univ ho, hu⟩
  iexact HSI

/-- What a run ends with. -/
def Final (r : PUnit × MemSt nD τ sig (Elt F)) : Prop :=
  (∀ d : Dev nD, r.2.mem ((d : Thread nD τ).loc main_v1) = outV m d
    ∧ r.2.mem ((d : Thread nD τ).loc main_arg0) = m ((d : Thread nD τ).loc main_arg0)
    ∧ r.2.mem ((d : Thread nD τ).loc main_arg1) = m ((d : Thread nD τ).loc main_arg1))
  ∧ r.2.sem = fun _ => 0

set_option maxRecDepth 100000 in
/-- From any memory with zero counters every fair execution of the eight kernels terminates without fault, and at the
    end each device's result array holds `outV`, its arguments are unchanged, and every counter is zero. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owed d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := left m) (Z := fun _ => iprop(emp))
    (hX := start_intro m ρ) (hin := phi0_intro m) (hout := phi1_exit m)
    (QY := Left m) (hY := left_read m)
    (hQ := fun s h hs => ⟨fun d => ⟨(h d).2.2.2.1, (h d).2.2.1,
        ((h d).1 (0 : Fin 1)).trans ((dats (F := F) m 0 d).arrAt_in (0 : Fin 1) rfl _)⟩,
      funext fun g => by
        by_cases hg : g.1.2 ≠ .tc ∨ g.2.isScoped .tc = true
        · exact hs g hg
        · obtain ⟨⟨c, k⟩, sm⟩ := g
          have h1 : k = .tc := not_not.mp fun e => hg (Or.inl e)
          subst h1
          exact (h c).2.2.2.2 sm (by simpa using fun e => hg (Or.inr e))⟩)

end Cert.KernelIdeal.Talk
-- ==== Proof.Value.Norm.lean ====
module

public import Idealize.ShloMosaic.PureOps.Ideal.Laws

/-!
# Normalising a row over the extended reals

A row `y` is divided by the square root of the mean of its squares plus a small positive number. The kernel
multiplies by the reciprocal of the square root instead; the two agree on every extended real, since what stands
under the root is positive, whatever the row holds.
-/

@[expose] public section

noncomputable section

namespace Cert.Norm

open Idealize.ShloMosaic

/-- The length of a row. -/
def len : EReal := Ideal.ofBits .f32 0x45800000#32
/-- The small number under the root. -/
def eps : EReal := Ideal.ofBits .f32 0x358637BD#32

theorem len_eq : len = ((4096 : ℝ) : EReal) := by
  unfold len
  simp [Ideal.ofBits, Ideal.ieee, -EReal.coe_mul]; norm_num

theorem eps_pos : 0 < eps := by
  unfold eps
  simp [Ideal.ofBits, Ideal.ieee, -EReal.coe_mul]

/-- A square is not negative, infinities included. -/
theorem sq_nonneg (y : EReal) : 0 ≤ y * y := by
  induction y using EReal.rec with
  | bot => simp
  | top => simp
  | coe r => exact_mod_cast mul_self_nonneg r

/-- What stands under the root. -/
def under {n : ℕ} (y : Fin n → EReal) : EReal := Ideal.div (∑ j, y j * y j) len + eps

theorem under_pos {n : ℕ} (y : Fin n → EReal) : 0 < under y := by
  have h : 0 ≤ Ideal.div (∑ j, y j * y j) len := by
    rw [len_eq, Ideal.div_coe (by norm_num)]
    exact mul_nonneg (Finset.sum_nonneg fun j _ => sq_nonneg _) (by exact_mod_cast (by norm_num : (0 : ℝ) ≤ 1 / 4096))
  exact lt_of_lt_of_le eps_pos (by simpa [under] using add_le_add_left h eps)

/-- Dividing by the root of a positive number is multiplying by its reciprocal root. -/
theorem div_sqrt {a : EReal} (h : 0 < a) (y : EReal) : Ideal.div y (Ideal.sqrt a) = y * Ideal.rsqrt a := by
  induction a using EReal.rec with
  | bot => exact absurd h (by simp)
  | top =>
    have e : Ideal.sqrt ⊤ = ⊤ := rfl
    rw [e, Ideal.rsqrt_top, Ideal.div, if_neg (by simp), EReal.inv_top]
  | coe r =>
    have hr : 0 < r := by exact_mod_cast h
    have hs : Real.sqrt r ≠ 0 := (Real.sqrt_pos.2 hr).ne'
    rw [Ideal.sqrt_coe, Ideal.rsqrt_coe, if_neg hr.le.not_gt, if_neg hr.le.not_gt, if_neg hr.ne', Ideal.div_coe hs, one_div]

/-- Element `j` of the normalised row, weighted by `g`. -/
def norm {n : ℕ} (y : Fin n → EReal) (g : EReal) (j : Fin n) : EReal := Ideal.div (y j) (Ideal.sqrt (under y)) * g

theorem norm_eq {n : ℕ} (y : Fin n → EReal) (g : EReal) (j : Fin n) : norm y g j = y j * Ideal.rsqrt (under y) * g := by
  unfold norm; rw [div_sqrt (under_pos y)]

end Cert.Norm
-- ==== Proof.Value.Row.lean ====
module

public import proofs.«01_k».proof.Proof.Value.Norm
public import proofs.«01_k».proof.Proof.KernelIdeal.Schedule
public import Idealize.ShloMosaic.Lib.Pointwise
public import Idealize.ShloMosaic.Lib.ValueIdx

/-!
# One block of rows, element by element

What the kernel computes of 128 rows: the rows that it keeps plus those that arrived, each normalised.
-/

@[expose] public section

noncomputable section

namespace Cert.KernelIdeal.Talk

open Cert.KernelIdeal Cert.KernelIdeal.Gen
open Idealize.ShloMosaic

/-- Element `(r, j)` of a block of normalised rows: `a` is what the device keeps, `b` what arrived. -/
theorem pay10_apply (a : Vec Ideal S1x128x4096 .f32) (b : Vec Ideal S1x128x4096 .bf16) (g : Vec Ideal S4096 .f32)
    (r : Fin 128) (j : Fin 4096) :
    flat (k0_pay10 (F := Ideal) a b g) (ix2 r j)
      = Norm.norm (fun l : Fin 4096 => (a (ix3 0 r l) + b (ix3 0 r l) : EReal)) (g (ix1 j)) j := by
  refine Eq.trans ?_ (Norm.norm_eq _ _ _).symm
  unfold Norm.under Norm.len Norm.eps flat
  pointwise [k0_pay10]

/-- The truncated rows that are sent are, over the reals, the rows. -/
theorem payX_apply (a : Vec Ideal S1x128x4096 .f32) (i : S1x128x4096.Idx) : payX (F := Ideal) a i = a i := by
  pointwise [payX, k0_pay2, k0_pay1]

end Cert.KernelIdeal.Talk
-- ==== Proof.Value.Ref.lean ====
module

public import proofs.«01_k».proof.Proof.Value.Norm
public import proofs.«01_k».proof.Proof.Gen.ReferenceIdeal.Run
public import Idealize.ShloMosaic.Lib.Pointwise
public import Idealize.ShloMosaic.Lib.ValueIdx

/-!
# What the reference computes

Element `(R, j)` of its result: row `R` of the sum of the two summands, normalised and weighted.
-/

@[expose] public section

noncomputable section

namespace Cert.RefValue

open Cert.ReferenceIdeal Cert.ReferenceIdeal.Gen
open Idealize.ShloMosaic Idealize.SL.Sem

/-- The reference's result, of the two summands `P` and the weights `g`. -/
def out (P : FVec Ideal S2x8192x4096 .f32) (g : FVec Ideal S4096 .f32) : FVec Ideal S8192x4096 .bf16 :=
  fun i => Norm.norm (fun l : Fin 4096 => (P (ix3 0 (i (0 : Fin 2) : Fin 8192) l) + P (ix3 1 (i (0 : Fin 2) : Fin 8192) l) : EReal))
    (g (ix1 (i (1 : Fin 2) : Fin 4096))) (i (1 : Fin 2) : Fin 4096)

/-- The reference's program leaves `out` in its result, its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Value.run (F := Ideal) m ρ)
  generalize m ((c.tc : Thread nD τ).loc main_arg0) = P
  generalize m ((c.tc : Thread nD τ).loc main_arg1) = g
  funext i
  unfold out Norm.norm Norm.under Norm.len Norm.eps
  pointwise
  simp only [Fin.sum_univ_two]

end Cert.RefValue
-- ==== Proof.Value.Block.lean ====
module

public import proofs.«01_k».proof.Proof.Value.Row
public import proofs.«01_k».proof.Proof.Value.Ref
public import proofs.«01_k».proof.Proof.KernelIdeal.Run
public import Idealize.ShloMosaic.Lib.Layout

/-!
# A device's result is its half of the reference's

Device `d = (x, y, z)` holds summand `x` whole and ends with the rows `4096 x …` of the result. The rows that it
computes itself are its own summand's plus those that its `x` neighbour sent, so both summands' at those rows.
-/

@[expose] public section

noncomputable section

namespace Cert.KernelIdeal.Talk

open Cert.KernelIdeal Cert.KernelIdeal.Gen
open Idealize.ShloMosaic Idealize.ShloMosaic.TcCoe

variable (m : (ℓ : Loc nD τ sig) → Buf (Elt Ideal) ℓ)

/-- Where the rows of chunk `c` that a device keeps begin in its summand: in its own half, -/
theorem kept_off (d : Dev nD) (c : Fin 8) :
    k0_off2 d (BitVec.ofNat 32 (128 * c.val)) = ![0, 4096 * (d.val / 4) + 1024 * (d.val % 4) + 128 * c.val, 0] := by
  revert d c; decide +kernel

/-- and where those that it sends begin: at the same place of the other half. -/
theorem sent_off (d : Dev nD) (c : Fin 8) :
    k0_off1 d (BitVec.ofNat 32 (128 * c.val)) = ![0, 4096 * (1 - d.val / 4) + 1024 * (d.val % 4) + 128 * c.val, 0] := by
  revert d c; decide +kernel

/-- The rows of a device's summand at launch that the rectangle at `o` names. -/
theorem read_rows (d : Dev nD) (o : Fin 3 → ℕ) (h : ∀ a, o a + S1x128x4096.size a ≤ S1x8192x4096.size a)
    (R : Fin 8192) (r : Fin 128) (l : Fin 4096) (h0 : o 0 = 0) (h1 : o 1 + r.val = R.val) (h2 : o 2 = 0) :
    (aM.slice (Rect.unit (s := S1x8192x4096) o S1x128x4096.size h) (fun _ => rfl)).view.read (Elt Ideal) (aV m d) (ix3 0 r l)
      = aV m d (ix3 0 R l) := by
  show aV m d _ = aV m d _
  refine congrArg (aV m d) (funext fun a => ?_)
  fin_cases a
  · exact Fin.ext (by show o 0 + 1 * 0 = 0; omega)
  · exact Fin.ext (by show o 1 + 1 * r.val = R.val; omega)
  · exact Fin.ext (by show o 2 + 1 * l.val = l.val; omega)

/-- Row `r` of chunk `c` of what a device keeps is row `R` of its summand. -/
theorem keptV_apply (d : Dev nD) (c : Fin 8) (R : Fin 8192) (r : Fin 128) (l : Fin 4096)
    (hR : R.val = 4096 * (d.val / 4) + 1024 * (d.val % 4) + 128 * c.val + r.val) :
    keptV m d c (ix3 0 r l) = aV m d (ix3 0 R l) :=
  read_rows m d _ _ R r l (congrFun (kept_off d c) (0 : Fin 3)) (by rw [congrFun (kept_off d c) (1 : Fin 3), hR]; rfl)
    (congrFun (kept_off d c) (2 : Fin 3))

/-- Row `r` of chunk `c` of what a device sends is row `R` of its summand. -/
theorem sentV_apply (d : Dev nD) (c : Fin 8) (R : Fin 8192) (r : Fin 128) (l : Fin 4096)
    (hR : R.val = 4096 * (1 - d.val / 4) + 1024 * (d.val % 4) + 128 * c.val + r.val) :
    sentV m d c (ix3 0 r l) = aV m d (ix3 0 R l) :=
  read_rows m d _ _ R r l (congrFun (sent_off d c) (0 : Fin 3)) (by rw [congrFun (sent_off d c) (1 : Fin 3), hR]; rfl)
    (congrFun (sent_off d c) (2 : Fin 3))

/-- The `x` neighbour has the other half, and the same place in it. -/
theorem xp_half (d : Dev nD) : 1 - (xp d).val / 4 = d.val / 4 ∧ (xp d).val % 4 = d.val % 4 := by revert d; decide
/-- The device that computes quarter `q` of a half is of that half and at place `q` in it; -/
theorem dv_half (d : Dev nD) (q : Fin 4) : (dv d q).val / 4 = d.val / 4 ∧ (dv d q).val % 4 = q.val := by revert d q; decide
/-- its `x` neighbour is of the other half. -/
theorem xp_dv_half (d : Dev nD) (q : Fin 4) : (xp (dv d q)).val / 4 = 1 - d.val / 4 := by revert d q; decide

/-- The weights are staged whole. -/
theorem gV_eq (d : Dev nD) : gV m d = m ((d : Thread nD τ).loc main_arg1) := by
  have hz : (fun a => (win0_0.index (0 : Fin 1)) a * main_arg1.ty.shape.size a) = fun _ => 0 :=
    funext fun a => by fin_cases a; decide
  exact Memref.read_access_unit_zero (Elt Ideal) main_arg1 hz (fun a => by fin_cases a; decide) _

/-- A device's summand at launch, as an array of numbers. -/
def summand (d : Dev nD) : FVec Ideal S1x8192x4096 .f32 := aV m d

/-- Element `(r, j)` of chunk `k` of quarter `q` of a device's result. -/
theorem rowV_apply (d : Dev nD) (q : Fin 4) (k : Fin 8) (R : Fin 8192) (r : Fin 128) (j : Fin 4096)
    (hR : R.val = 4096 * (d.val / 4) + 1024 * q.val + 128 * k.val + r.val) :
    rowV m d q k (ix2 r j)
      = Norm.norm (fun l : Fin 4096 => (summand m (dv d q) (ix3 0 R l) + summand m (xp (dv d q)) (ix3 0 R l) : EReal))
          (m ((dv d q : Thread nD τ).loc main_arg1) (ix1 j)) j := by
  refine (pay10_apply _ _ _ r j).trans ?_
  rw [gV_eq]
  refine congrArg (fun y => Norm.norm y _ j) (funext fun l => ?_)
  refine congrArg₂ (α := EReal) (β := EReal) (· + ·) (keptV_apply m _ _ R r l ?_)
    ((payX_apply _ _).trans (sentV_apply m _ _ R r l ?_))
  · rw [(dv_half d q).1, (dv_half d q).2]; exact hR
  · rw [(xp_half _).1, (xp_half _).2, (dv_half d q).1, (dv_half d q).2]; exact hR

/-- A device's half of the result is named by its `x` coordinate. -/
theorem place (d : Dev nD) : Layout.meshLin [2, 2, 2] d.val [0] = d.val / 4 := by revert d; decide

/-- Element `(a, j)` of a device's result. -/
theorem outV_apply (d : Dev nD) (R : Fin 8192) (a j : Fin 4096) (hR : R.val = 4096 * (d.val / 4) + a.val) :
    outV m d (ix2 a j)
      = Norm.norm (fun l : Fin 4096 => (summand m (dv d ⟨a.val / 1024, by omega⟩) (ix3 0 R l)
            + summand m (xp (dv d ⟨a.val / 1024, by omega⟩)) (ix3 0 R l) : EReal))
          (m ((dv d ⟨a.val / 1024, by omega⟩ : Thread nD τ).loc main_arg1) (ix1 j)) j := by
  have hrow : rowI (ix2 a j) = ix2 (⟨a.val % 128, Nat.mod_lt _ (by decide)⟩ : Fin 128) j := by
    funext b; fin_cases b <;> rfl
  refine (congrArg (rowV m d _ _) hrow).trans (rowV_apply m d ⟨a.val / 1024, by omega⟩ ⟨a.val % 1024 / 128, by omega⟩ R _ j ?_)
  show R.val = 4096 * (d.val / 4) + 1024 * (a.val / 1024) + 128 * (a.val % 1024 / 128) + a.val % 128
  omega

/-- If every device holds its summand of `P`, and all hold the weights `g`, each ends with its half of the reference's
    result. -/
theorem outV_eq (P : FVec Ideal ⟨3, ![2, 8192, 4096]⟩ .f32) (g : FVec Ideal S4096 .f32)
    (hP : ∀ c : Dev nD, m ((c.tc : Thread nD τ).loc main_arg0)
      = Layout.blockN ⟨3, ![1, 8192, 4096]⟩ ⟨3, ![2, 8192, 4096]⟩ (Layout.meshBlock [2, 2, 2] ![[0], [], []] c) P)
    (hg : ∀ c : Dev nD, m ((c.tc : Thread nD τ).loc main_arg1) = g) (d : Dev nD) :
    outV m d = Layout.blockN ⟨2, ![4096, 4096]⟩ ⟨2, ![8192, 4096]⟩ (Layout.meshBlock [2, 2, 2] ![[0], []] d)
      (RefValue.out P g) := by
  have hA : ∀ (c : Dev nD) (R : Fin 8192) (l : Fin 4096) (x : Fin 2), x.val = c.val / 4 →
      summand m c (ix3 0 R l) = P (ix3 x R l) := by
    intro c R l x hx
    refine (congrFun (hP c) _).trans (congrArg P (funext fun b => Fin.ext ?_))
    fin_cases b
    · show Layout.meshLin [2, 2, 2] c.val [0] * 1 + 0 = x.val
      rw [place]; omega
    · show 0 * 8192 + R.val = R.val
      omega
    · show 0 * 4096 + l.val = l.val
      omega
  funext i
  obtain ⟨a, j, rfl⟩ : ∃ a j : Fin 4096, i = ix2 a j := ⟨i (0 : Fin 2), i (1 : Fin 2), by funext b; fin_cases b <;> rfl⟩
  have hd : d.val / 4 < 2 := by have : d.val < 8 := d.isLt; omega
  have hR : 4096 * (d.val / 4) + a.val < 8192 := by omega
  refine (outV_apply m d ⟨_, hR⟩ a j rfl).trans (Eq.trans ?_ (congrArg (RefValue.out P g)
    (show ix2 (⟨_, hR⟩ : Fin 8192) j = Layout.TilesN.idx (S := ⟨2, ![4096, 4096]⟩) (T := ⟨2, ![8192, 4096]⟩) (by decide)
      (Layout.meshBlock [2, 2, 2] ![[0], []] d) (ix2 a j) from funext fun b => ?_)))
  · rw [hg]
    refine congrArg (fun y => Norm.norm y _ _) (funext fun l => ?_)
    have h1 := (dv_half d ⟨a.val / 1024, by omega⟩).1
    have h2 := xp_dv_half d ⟨a.val / 1024, by omega⟩
    rcases (by omega : d.val / 4 = 0 ∨ d.val / 4 = 1) with hx | hx
    · rw [hA _ _ l 0 (by rw [h1, hx]; rfl), hA _ _ l 1 (by rw [h2, hx]; rfl)]
      rfl
    · rw [hA _ _ l 1 (by rw [h1, hx]; rfl), hA _ _ l 0 (by rw [h2, hx]; rfl), add_comm]
      rfl
  · fin_cases b
    · exact Fin.ext (by
        show 4096 * (d.val / 4) + a.val = Layout.meshLin [2, 2, 2] d.val [0] * 4096 + a.val
        rw [place]; omega)
    · exact Fin.ext (by show j.val = 0 * 4096 + j.val; omega)

end Cert.KernelIdeal.Talk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Block
public import Idealize.ShloMosaic.Adequacy
public import Idealize.ShloMosaic.Init

@[expose] public section

noncomputable section

namespace Cert.Proof

open Idealize.ShloMosaic Idealize.SL.Sem

/-- The compiled program ends without fault on every device, with its arguments as they were and every counter at
    zero. -/
theorem frame_kernel : Cert.quiescent_Kernel := fun m ρ _ =>
  (θ_run Cert.Kernel.defs _ _).mono (fun _ h => ⟨fun c => (h.1 c).2, h.2⟩) (Cert.Kernel.Talk.run_main (F := Bits) m ρ)

/-- So does the program over the extended reals, -/
theorem frame_ideal : Cert.quiescent_KernelIdeal := fun m ρ _ =>
  (θ_run Cert.KernelIdeal.defs _ _).mono (fun _ h => ⟨fun c => (h.1 c).2, h.2⟩)
    (Cert.KernelIdeal.Talk.run_main (F := Ideal) m ρ)

/-- and the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RefValue.run m ρ)

/-- Every device's result is its half of the reference's, over the extended reals. -/
theorem value : Cert.algebraic_KernelIdeal_ReferenceIdeal := by
  intro m ρ m' ρ' _ h
  refine ⟨Cert.RefValue.out
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    ?_, ?_⟩
  · exact (θ_run Cert.KernelIdeal.defs _ _).mono
      (fun _ e c => ⟨(e.1 c).1.trans (Cert.KernelIdeal.Talk.outV_eq m _ _ (fun c => (h c).1) (fun c => (h c).2) c), (e.1 c).2⟩)
      (Cert.KernelIdeal.Talk.run_main (F := Ideal) m ρ)
  · exact (θ_run Cert.ReferenceIdeal.defs _ _).mono (fun _ e => e 0) (Cert.RefValue.run m' ρ')

/-- All five claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
